-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 256]⟩ ⟨2, ![2048, 2048]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![2048, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x256 : Shape := ⟨2, ![2048, 256]⟩
abbrev S2048x2048 : Shape := ⟨2, ![2048, 2048]⟩
abbrev S256x2048 : Shape := ⟨2, ![256, 2048]⟩
abbrev S256x256 : Shape := ⟨2, ![256, 256]⟩
abbrev S7x256x256 : Shape := ⟨3, ![7, 256, 256]⟩
abbrev S10752x1024 : Shape := ⟨2, ![10752, 1024]⟩
abbrev S4x7 : Shape := ⟨2, ![4, 7]⟩
abbrev S4 : Shape := ⟨1, ![4]⟩
abbrev S_ : Shape := ⟨0, ![]⟩
abbrev S1x1 : Shape := ⟨2, ![1, 1]⟩
abbrev S1x64x256 : Shape := ⟨3, ![1, 64, 256]⟩
abbrev S64x256 : Shape := ⟨2, ![64, 256]⟩
abbrev S64x2048 : Shape := ⟨2, ![64, 2048]⟩
abbrev S1 : Shape := ⟨1, ![1]⟩

abbrev nBuf : Space → Nat
  | .hbm => 3
  | .vmem => 5
  | .smem => 0
  | _ => 0

abbrev bufTy : (tb : Table) → Fin (tcTables nBuf tb) → BufTy
  | .hbm, ⟨0, _⟩ => ⟨S2048x256, .f32⟩
  | .hbm, ⟨1, _⟩ => ⟨S2048x2048, .f32⟩
  | .hbm, ⟨2, _⟩ => ⟨S256x2048, .f32⟩
  | .local _ .vmem, ⟨0, _⟩ => ⟨S256x2048, .f32⟩
  | .local _ .vmem, ⟨1, _⟩ => ⟨S2048x2048, .f32⟩
  | .local _ .vmem, ⟨2, _⟩ => ⟨S256x256, .f32⟩
  | .local _ .vmem, ⟨3, _⟩ => ⟨S7x256x256, .f32⟩
  | .local _ .vmem, ⟨4, _⟩ => ⟨S10752x1024, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  (ofTc nBuf bufTy 1 62 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 8
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v3 : BitVec 32 := Scalar.muli v2 c256_i32
  let c0_i32 : BitVec 32 := 0#32
  ![v3.toNat, 0]
def k0_dev1 (d0 : Dev nD) : Nat :=
  let c0_i32_4 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v6 : BitVec 32 := Scalar.addi v2 c1_i32_0
  let c8_i32_1 : BitVec 32 := 8#32
  let v7 : BitVec 32 := Scalar.remsi v6 c8_i32_1
  let c1_i32_3 : BitVec 32 := 1#32
  let v8 : BitVec 32 := Scalar.muli v7 c1_i32_3
  let v9 : BitVec 32 := Scalar.addi c0_i32_4 v8
  v9.toNat
def k0_dev2 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v10 : BitVec 32 := Scalar.addi v2 c2_i32
  let c8_i32_5 : BitVec 32 := 8#32
  let v11 : BitVec 32 := Scalar.remsi v10 c8_i32_5
  let c1_i32_7 : BitVec 32 := 1#32
  let v12 : BitVec 32 := Scalar.muli v11 c1_i32_7
  let v13 : BitVec 32 := Scalar.addi c0_i32_8 v12
  v13.toNat
def k0_dev3 (d0 : Dev nD) : Nat :=
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v14 : BitVec 32 := Scalar.addi v2 c3_i32
  let c8_i32_9 : BitVec 32 := 8#32
  let v15 : BitVec 32 := Scalar.remsi v14 c8_i32_9
  let c1_i32_11 : BitVec 32 := 1#32
  let v16 : BitVec 32 := Scalar.muli v15 c1_i32_11
  let v17 : BitVec 32 := Scalar.addi c0_i32_12 v16
  v17.toNat
def k0_dev4 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v18 : BitVec 32 := Scalar.addi v2 c4_i32
  let c8_i32_13 : BitVec 32 := 8#32
  let v19 : BitVec 32 := Scalar.remsi v18 c8_i32_13
  let c1_i32_15 : BitVec 32 := 1#32
  let v20 : BitVec 32 := Scalar.muli v19 c1_i32_15
  let v21 : BitVec 32 := Scalar.addi c0_i32_16 v20
  v21.toNat
def k0_dev5 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v22 : BitVec 32 := Scalar.addi v2 c5_i32
  let c8_i32_17 : BitVec 32 := 8#32
  let v23 : BitVec 32 := Scalar.remsi v22 c8_i32_17
  let c1_i32_19 : BitVec 32 := 1#32
  let v24 : BitVec 32 := Scalar.muli v23 c1_i32_19
  let v25 : BitVec 32 := Scalar.addi c0_i32_20 v24
  v25.toNat
def k0_dev6 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v26 : BitVec 32 := Scalar.addi v2 c6_i32
  let c8_i32_21 : BitVec 32 := 8#32
  let v27 : BitVec 32 := Scalar.remsi v26 c8_i32_21
  let c1_i32_23 : BitVec 32 := 1#32
  let v28 : BitVec 32 := Scalar.muli v27 c1_i32_23
  let v29 : BitVec 32 := Scalar.addi c0_i32_24 v28
  v29.toNat
def k0_dev7 (d0 : Dev nD) : Nat :=
  let c0_i32_28 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v30 : BitVec 32 := Scalar.addi v2 c7_i32
  let c8_i32_25 : BitVec 32 := 8#32
  let v31 : BitVec 32 := Scalar.remsi v30 c8_i32_25
  let c1_i32_27 : BitVec 32 := 1#32
  let v32 : BitVec 32 := Scalar.muli v31 c1_i32_27
  let v33 : BitVec 32 := Scalar.addi c0_i32_28 v32
  v33.toNat
def k0_off2 (d0 : Dev nD) (c0_i32_48 : BitVec 32) (c0_i32_47 : BitVec 32) (c1_i32_46 : BitVec 32) (c0_i32_53 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_31 : BitVec 32 := 0#32
  let v35 : BitVec 1 := Scalar.cmpi .sgt v2 c0_i32_31
  let v36 : BitVec 32 := Scalar.extui v35
  let c0_i32_32 : BitVec 32 := 0#32
  let v37 : BitVec 1 := Scalar.cmpi .slt v2 c0_i32_32
  let v38 : BitVec 32 := Scalar.extui v37
  let v39 : BitVec 32 := Scalar.subi v36 v38
  let c4_i32_30 : BitVec 32 := 4#32
  let c0_i32_33 : BitVec 32 := 0#32
  let v40 : BitVec 1 := Scalar.cmpi .sgt c4_i32_30 c0_i32_33
  let v41 : BitVec 32 := Scalar.extui v40
  let c0_i32_34 : BitVec 32 := 0#32
  let v42 : BitVec 1 := Scalar.cmpi .slt c4_i32_30 c0_i32_34
  let v43 : BitVec 32 := Scalar.extui v42
  let v44 : BitVec 32 := Scalar.subi v41 v43
  let v45 : BitVec 1 := Scalar.cmpi .ne v39 v44
  let v46 : BitVec 32 := Scalar.remsi v2 c4_i32_30
  let c0_i32_35 : BitVec 32 := 0#32
  let v47 : BitVec 1 := Scalar.cmpi .ne v46 c0_i32_35
  let v48 : BitVec 1 := Scalar.andi v45 v47
  let v34 : BitVec 32 := Scalar.divsi v2 c4_i32_30
  let c1_i32_36 : BitVec 32 := 1#32
  let v49 : BitVec 32 := Scalar.subi v34 c1_i32_36
  let v50 : BitVec 32 := Scalar.select v48 v49 v34
  let v69 : BitVec 32 := Scalar.xori v50 c0_i32_48
  let c4_i32_49 : BitVec 32 := 4#32
  let v70 : BitVec 32 := Scalar.muli v69 c4_i32_49
  let c4_i32_37 : BitVec 32 := 4#32
  let c0_i32_38 : BitVec 32 := 0#32
  let v51 : BitVec 1 := Scalar.cmpi .eq c4_i32_37 c0_i32_38
  let c1_i32_39 : BitVec 32 := 1#32
  let v52 : BitVec 32 := Scalar.select v51 c1_i32_39 c4_i32_37
  let v53 : BitVec 32 := Scalar.remsi v2 v52
  let c0_i32_41 : BitVec 32 := 0#32
  let v55 : BitVec 1 := Scalar.cmpi .slt v53 c0_i32_41
  let c0_i32_42 : BitVec 32 := 0#32
  let v56 : BitVec 1 := Scalar.cmpi .slt v52 c0_i32_42
  let v57 : BitVec 1 := Scalar.xori v55 v56
  let c0_i32_40 : BitVec 32 := 0#32
  let v54 : BitVec 1 := Scalar.cmpi .ne v53 c0_i32_40
  let v58 : BitVec 1 := Scalar.andi v57 v54
  let v59 : BitVec 32 := Scalar.addi v53 v52
  let v60 : BitVec 32 := Scalar.select v58 v59 v53
  let c2_i32_43 : BitVec 32 := 2#32
  let v61 : BitVec 1 := Scalar.cmpi .sge v60 c2_i32_43
  let v62 : BitVec 32 := Scalar.extui v61
  let v68 : BitVec 32 := Scalar.xori v62 c0_i32_47
  let c3_i32_50 : BitVec 32 := 3#32
  let v71 : BitVec 32 := Scalar.muli v68 c3_i32_50
  let c1_i32_44 : BitVec 32 := 1#32
  let v63 : BitVec 1 := Scalar.cmpi .eq v60 c1_i32_44
  let c2_i32_45 : BitVec 32 := 2#32
  let v64 : BitVec 1 := Scalar.cmpi .eq v60 c2_i32_45
  let v65 : BitVec 1 := Scalar.ori v63 v64
  let v66 : BitVec 32 := Scalar.extui v65
  let v67 : BitVec 32 := Scalar.xori v66 c1_i32_46
  let v72 : BitVec 32 := Scalar.addi v71 v67
  let c2_i32_51 : BitVec 32 := 2#32
  let v73 : BitVec 32 := Scalar.muli c2_i32_51 v67
  let v74 : BitVec 32 := Scalar.muli v73 v68
  let v75 : BitVec 32 := Scalar.subi v72 v74
  let v76 : BitVec 32 := Scalar.addi v70 v75
  let c256_i32_52 : BitVec 32 := 256#32
  let v77 : BitVec 32 := Scalar.muli v76 c256_i32_52
  let v78 : BitVec 32 := Scalar.addi v77 c0_i32_53
  let c0_i32_63 : BitVec 32 := 0#32
  ![v78.toNat, 0]
def k0_off2_at (r : Fin 28) : BitVec 32 × BitVec 32 × BitVec 32 × BitVec 32 :=
  if r.val < 14 then
    if r.val < 7 then
      if r.val < 3 then
        if r.val < 1 then
          (0#32, 0#32, 1#32, 0#32)
        else
          if r.val < 2 then
            (0#32, 1#32, 0#32, 0#32)
          else
            (1#32, 0#32, 0#32, 0#32)
      else
        if r.val < 5 then
          if r.val < 4 then
            (0#32, 1#32, 1#32, 0#32)
          else
            (1#32, 0#32, 1#32, 0#32)
        else
          if r.val < 6 then
            (1#32, 1#32, 0#32, 0#32)
          else
            (1#32, 1#32, 1#32, 0#32)
    else
      if r.val < 10 then
        if r.val < 8 then
          (0#32, 0#32, 1#32, 64#32)
        else
          if r.val < 9 then
            (0#32, 1#32, 0#32, 64#32)
          else
            (1#32, 0#32, 0#32, 64#32)
      else
        if r.val < 12 then
          if r.val < 11 then
            (0#32, 1#32, 1#32, 64#32)
          else
            (1#32, 0#32, 1#32, 64#32)
        else
          if r.val < 13 then
            (1#32, 1#32, 0#32, 64#32)
          else
            (1#32, 1#32, 1#32, 64#32)
  else
    if r.val < 21 then
      if r.val < 17 then
        if r.val < 15 then
          (0#32, 0#32, 1#32, 128#32)
        else
          if r.val < 16 then
            (0#32, 1#32, 0#32, 128#32)
          else
            (1#32, 0#32, 0#32, 128#32)
      else
        if r.val < 19 then
          if r.val < 18 then
            (0#32, 1#32, 1#32, 128#32)
          else
            (1#32, 0#32, 1#32, 128#32)
        else
          if r.val < 20 then
            (1#32, 1#32, 0#32, 128#32)
          else
            (1#32, 1#32, 1#32, 128#32)
    else
      if r.val < 24 then
        if r.val < 22 then
          (0#32, 0#32, 1#32, 192#32)
        else
          if r.val < 23 then
            (0#32, 1#32, 0#32, 192#32)
          else
            (1#32, 0#32, 0#32, 192#32)
      else
        if r.val < 26 then
          if r.val < 25 then
            (0#32, 1#32, 1#32, 192#32)
          else
            (1#32, 0#32, 1#32, 192#32)
        else
          if r.val < 27 then
            (1#32, 1#32, 0#32, 192#32)
          else
            (1#32, 1#32, 1#32, 192#32)
def k0_dev8 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_31 : BitVec 32 := 0#32
  let v35 : BitVec 1 := Scalar.cmpi .sgt v2 c0_i32_31
  let v36 : BitVec 32 := Scalar.extui v35
  let c0_i32_32 : BitVec 32 := 0#32
  let v37 : BitVec 1 := Scalar.cmpi .slt v2 c0_i32_32
  let v38 : BitVec 32 := Scalar.extui v37
  let v39 : BitVec 32 := Scalar.subi v36 v38
  let c4_i32_30 : BitVec 32 := 4#32
  let c0_i32_33 : BitVec 32 := 0#32
  let v40 : BitVec 1 := Scalar.cmpi .sgt c4_i32_30 c0_i32_33
  let v41 : BitVec 32 := Scalar.extui v40
  let c0_i32_34 : BitVec 32 := 0#32
  let v42 : BitVec 1 := Scalar.cmpi .slt c4_i32_30 c0_i32_34
  let v43 : BitVec 32 := Scalar.extui v42
  let v44 : BitVec 32 := Scalar.subi v41 v43
  let v45 : BitVec 1 := Scalar.cmpi .ne v39 v44
  let v46 : BitVec 32 := Scalar.remsi v2 c4_i32_30
  let c0_i32_35 : BitVec 32 := 0#32
  let v47 : BitVec 1 := Scalar.cmpi .ne v46 c0_i32_35
  let v48 : BitVec 1 := Scalar.andi v45 v47
  let v34 : BitVec 32 := Scalar.divsi v2 c4_i32_30
  let c1_i32_36 : BitVec 32 := 1#32
  let v49 : BitVec 32 := Scalar.subi v34 c1_i32_36
  let v50 : BitVec 32 := Scalar.select v48 v49 v34
  let c0_i32_48 : BitVec 32 := 0#32
  let v69 : BitVec 32 := Scalar.xori v50 c0_i32_48
  let c4_i32_49 : BitVec 32 := 4#32
  let v70 : BitVec 32 := Scalar.muli v69 c4_i32_49
  let c4_i32_37 : BitVec 32 := 4#32
  let c0_i32_38 : BitVec 32 := 0#32
  let v51 : BitVec 1 := Scalar.cmpi .eq c4_i32_37 c0_i32_38
  let c1_i32_39 : BitVec 32 := 1#32
  let v52 : BitVec 32 := Scalar.select v51 c1_i32_39 c4_i32_37
  let v53 : BitVec 32 := Scalar.remsi v2 v52
  let c0_i32_41 : BitVec 32 := 0#32
  let v55 : BitVec 1 := Scalar.cmpi .slt v53 c0_i32_41
  let c0_i32_42 : BitVec 32 := 0#32
  let v56 : BitVec 1 := Scalar.cmpi .slt v52 c0_i32_42
  let v57 : BitVec 1 := Scalar.xori v55 v56
  let c0_i32_40 : BitVec 32 := 0#32
  let v54 : BitVec 1 := Scalar.cmpi .ne v53 c0_i32_40
  let v58 : BitVec 1 := Scalar.andi v57 v54
  let v59 : BitVec 32 := Scalar.addi v53 v52
  let v60 : BitVec 32 := Scalar.select v58 v59 v53
  let c2_i32_43 : BitVec 32 := 2#32
  let v61 : BitVec 1 := Scalar.cmpi .sge v60 c2_i32_43
  let v62 : BitVec 32 := Scalar.extui v61
  let c0_i32_47 : BitVec 32 := 0#32
  let v68 : BitVec 32 := Scalar.xori v62 c0_i32_47
  let c3_i32_50 : BitVec 32 := 3#32
  let v71 : BitVec 32 := Scalar.muli v68 c3_i32_50
  let c1_i32_44 : BitVec 32 := 1#32
  let v63 : BitVec 1 := Scalar.cmpi .eq v60 c1_i32_44
  let c2_i32_45 : BitVec 32 := 2#32
  let v64 : BitVec 1 := Scalar.cmpi .eq v60 c2_i32_45
  let v65 : BitVec 1 := Scalar.ori v63 v64
  let v66 : BitVec 32 := Scalar.extui v65
  let c1_i32_46 : BitVec 32 := 1#32
  let v67 : BitVec 32 := Scalar.xori v66 c1_i32_46
  let v72 : BitVec 32 := Scalar.addi v71 v67
  let c2_i32_51 : BitVec 32 := 2#32
  let v73 : BitVec 32 := Scalar.muli c2_i32_51 v67
  let v74 : BitVec 32 := Scalar.muli v73 v68
  let v75 : BitVec 32 := Scalar.subi v72 v74
  let v76 : BitVec 32 := Scalar.addi v70 v75
  let c1_i32_59 : BitVec 32 := 1#32
  let v79 : BitVec 32 := Scalar.muli v76 c1_i32_59
  let v80 : BitVec 32 := Scalar.addi c0_i32_60 v79
  v80.toNat
def k0_dev9 (d0 : Dev nD) : Nat :=
  let c0_i32_94 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_65 : BitVec 32 := 0#32
  let v89 : BitVec 1 := Scalar.cmpi .sgt v2 c0_i32_65
  let v90 : BitVec 32 := Scalar.extui v89
  let c0_i32_66 : BitVec 32 := 0#32
  let v91 : BitVec 1 := Scalar.cmpi .slt v2 c0_i32_66
  let v92 : BitVec 32 := Scalar.extui v91
  let v93 : BitVec 32 := Scalar.subi v90 v92
  let c4_i32_64 : BitVec 32 := 4#32
  let c0_i32_67 : BitVec 32 := 0#32
  let v94 : BitVec 1 := Scalar.cmpi .sgt c4_i32_64 c0_i32_67
  let v95 : BitVec 32 := Scalar.extui v94
  let c0_i32_68 : BitVec 32 := 0#32
  let v96 : BitVec 1 := Scalar.cmpi .slt c4_i32_64 c0_i32_68
  let v97 : BitVec 32 := Scalar.extui v96
  let v98 : BitVec 32 := Scalar.subi v95 v97
  let v99 : BitVec 1 := Scalar.cmpi .ne v93 v98
  let v100 : BitVec 32 := Scalar.remsi v2 c4_i32_64
  let c0_i32_69 : BitVec 32 := 0#32
  let v101 : BitVec 1 := Scalar.cmpi .ne v100 c0_i32_69
  let v102 : BitVec 1 := Scalar.andi v99 v101
  let v88 : BitVec 32 := Scalar.divsi v2 c4_i32_64
  let c1_i32_70 : BitVec 32 := 1#32
  let v103 : BitVec 32 := Scalar.subi v88 c1_i32_70
  let v104 : BitVec 32 := Scalar.select v102 v103 v88
  let c0_i32_82 : BitVec 32 := 0#32
  let v123 : BitVec 32 := Scalar.xori v104 c0_i32_82
  let c4_i32_83 : BitVec 32 := 4#32
  let v124 : BitVec 32 := Scalar.muli v123 c4_i32_83
  let c4_i32_71 : BitVec 32 := 4#32
  let c0_i32_72 : BitVec 32 := 0#32
  let v105 : BitVec 1 := Scalar.cmpi .eq c4_i32_71 c0_i32_72
  let c1_i32_73 : BitVec 32 := 1#32
  let v106 : BitVec 32 := Scalar.select v105 c1_i32_73 c4_i32_71
  let v107 : BitVec 32 := Scalar.remsi v2 v106
  let c0_i32_75 : BitVec 32 := 0#32
  let v109 : BitVec 1 := Scalar.cmpi .slt v107 c0_i32_75
  let c0_i32_76 : BitVec 32 := 0#32
  let v110 : BitVec 1 := Scalar.cmpi .slt v106 c0_i32_76
  let v111 : BitVec 1 := Scalar.xori v109 v110
  let c0_i32_74 : BitVec 32 := 0#32
  let v108 : BitVec 1 := Scalar.cmpi .ne v107 c0_i32_74
  let v112 : BitVec 1 := Scalar.andi v111 v108
  let v113 : BitVec 32 := Scalar.addi v107 v106
  let v114 : BitVec 32 := Scalar.select v112 v113 v107
  let c2_i32_77 : BitVec 32 := 2#32
  let v115 : BitVec 1 := Scalar.cmpi .sge v114 c2_i32_77
  let v116 : BitVec 32 := Scalar.extui v115
  let c1_i32_81 : BitVec 32 := 1#32
  let v122 : BitVec 32 := Scalar.xori v116 c1_i32_81
  let c3_i32_84 : BitVec 32 := 3#32
  let v125 : BitVec 32 := Scalar.muli v122 c3_i32_84
  let c1_i32_78 : BitVec 32 := 1#32
  let v117 : BitVec 1 := Scalar.cmpi .eq v114 c1_i32_78
  let c2_i32_79 : BitVec 32 := 2#32
  let v118 : BitVec 1 := Scalar.cmpi .eq v114 c2_i32_79
  let v119 : BitVec 1 := Scalar.ori v117 v118
  let v120 : BitVec 32 := Scalar.extui v119
  let c0_i32_80 : BitVec 32 := 0#32
  let v121 : BitVec 32 := Scalar.xori v120 c0_i32_80
  let v126 : BitVec 32 := Scalar.addi v125 v121
  let c2_i32_85 : BitVec 32 := 2#32
  let v127 : BitVec 32 := Scalar.muli c2_i32_85 v121
  let v128 : BitVec 32 := Scalar.muli v127 v122
  let v129 : BitVec 32 := Scalar.subi v126 v128
  let v130 : BitVec 32 := Scalar.addi v124 v129
  let c1_i32_93 : BitVec 32 := 1#32
  let v133 : BitVec 32 := Scalar.muli v130 c1_i32_93
  let v134 : BitVec 32 := Scalar.addi c0_i32_94 v133
  v134.toNat
def k0_dev10 (d0 : Dev nD) : Nat :=
  let c0_i32_128 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_99 : BitVec 32 := 0#32
  let v143 : BitVec 1 := Scalar.cmpi .sgt v2 c0_i32_99
  let v144 : BitVec 32 := Scalar.extui v143
  let c0_i32_100 : BitVec 32 := 0#32
  let v145 : BitVec 1 := Scalar.cmpi .slt v2 c0_i32_100
  let v146 : BitVec 32 := Scalar.extui v145
  let v147 : BitVec 32 := Scalar.subi v144 v146
  let c4_i32_98 : BitVec 32 := 4#32
  let c0_i32_101 : BitVec 32 := 0#32
  let v148 : BitVec 1 := Scalar.cmpi .sgt c4_i32_98 c0_i32_101
  let v149 : BitVec 32 := Scalar.extui v148
  let c0_i32_102 : BitVec 32 := 0#32
  let v150 : BitVec 1 := Scalar.cmpi .slt c4_i32_98 c0_i32_102
  let v151 : BitVec 32 := Scalar.extui v150
  let v152 : BitVec 32 := Scalar.subi v149 v151
  let v153 : BitVec 1 := Scalar.cmpi .ne v147 v152
  let v154 : BitVec 32 := Scalar.remsi v2 c4_i32_98
  let c0_i32_103 : BitVec 32 := 0#32
  let v155 : BitVec 1 := Scalar.cmpi .ne v154 c0_i32_103
  let v156 : BitVec 1 := Scalar.andi v153 v155
  let v142 : BitVec 32 := Scalar.divsi v2 c4_i32_98
  let c1_i32_104 : BitVec 32 := 1#32
  let v157 : BitVec 32 := Scalar.subi v142 c1_i32_104
  let v158 : BitVec 32 := Scalar.select v156 v157 v142
  let c1_i32_116 : BitVec 32 := 1#32
  let v177 : BitVec 32 := Scalar.xori v158 c1_i32_116
  let c4_i32_117 : BitVec 32 := 4#32
  let v178 : BitVec 32 := Scalar.muli v177 c4_i32_117
  let c4_i32_105 : BitVec 32 := 4#32
  let c0_i32_106 : BitVec 32 := 0#32
  let v159 : BitVec 1 := Scalar.cmpi .eq c4_i32_105 c0_i32_106
  let c1_i32_107 : BitVec 32 := 1#32
  let v160 : BitVec 32 := Scalar.select v159 c1_i32_107 c4_i32_105
  let v161 : BitVec 32 := Scalar.remsi v2 v160
  let c0_i32_109 : BitVec 32 := 0#32
  let v163 : BitVec 1 := Scalar.cmpi .slt v161 c0_i32_109
  let c0_i32_110 : BitVec 32 := 0#32
  let v164 : BitVec 1 := Scalar.cmpi .slt v160 c0_i32_110
  let v165 : BitVec 1 := Scalar.xori v163 v164
  let c0_i32_108 : BitVec 32 := 0#32
  let v162 : BitVec 1 := Scalar.cmpi .ne v161 c0_i32_108
  let v166 : BitVec 1 := Scalar.andi v165 v162
  let v167 : BitVec 32 := Scalar.addi v161 v160
  let v168 : BitVec 32 := Scalar.select v166 v167 v161
  let c2_i32_111 : BitVec 32 := 2#32
  let v169 : BitVec 1 := Scalar.cmpi .sge v168 c2_i32_111
  let v170 : BitVec 32 := Scalar.extui v169
  let c0_i32_115 : BitVec 32 := 0#32
  let v176 : BitVec 32 := Scalar.xori v170 c0_i32_115
  let c3_i32_118 : BitVec 32 := 3#32
  let v179 : BitVec 32 := Scalar.muli v176 c3_i32_118
  let c1_i32_112 : BitVec 32 := 1#32
  let v171 : BitVec 1 := Scalar.cmpi .eq v168 c1_i32_112
  let c2_i32_113 : BitVec 32 := 2#32
  let v172 : BitVec 1 := Scalar.cmpi .eq v168 c2_i32_113
  let v173 : BitVec 1 := Scalar.ori v171 v172
  let v174 : BitVec 32 := Scalar.extui v173
  let c0_i32_114 : BitVec 32 := 0#32
  let v175 : BitVec 32 := Scalar.xori v174 c0_i32_114
  let v180 : BitVec 32 := Scalar.addi v179 v175
  let c2_i32_119 : BitVec 32 := 2#32
  let v181 : BitVec 32 := Scalar.muli c2_i32_119 v175
  let v182 : BitVec 32 := Scalar.muli v181 v176
  let v183 : BitVec 32 := Scalar.subi v180 v182
  let v184 : BitVec 32 := Scalar.addi v178 v183
  let c1_i32_127 : BitVec 32 := 1#32
  let v187 : BitVec 32 := Scalar.muli v184 c1_i32_127
  let v188 : BitVec 32 := Scalar.addi c0_i32_128 v187
  v188.toNat
def k0_dev11 (d0 : Dev nD) : Nat :=
  let c0_i32_162 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_133 : BitVec 32 := 0#32
  let v197 : BitVec 1 := Scalar.cmpi .sgt v2 c0_i32_133
  let v198 : BitVec 32 := Scalar.extui v197
  let c0_i32_134 : BitVec 32 := 0#32
  let v199 : BitVec 1 := Scalar.cmpi .slt v2 c0_i32_134
  let v200 : BitVec 32 := Scalar.extui v199
  let v201 : BitVec 32 := Scalar.subi v198 v200
  let c4_i32_132 : BitVec 32 := 4#32
  let c0_i32_135 : BitVec 32 := 0#32
  let v202 : BitVec 1 := Scalar.cmpi .sgt c4_i32_132 c0_i32_135
  let v203 : BitVec 32 := Scalar.extui v202
  let c0_i32_136 : BitVec 32 := 0#32
  let v204 : BitVec 1 := Scalar.cmpi .slt c4_i32_132 c0_i32_136
  let v205 : BitVec 32 := Scalar.extui v204
  let v206 : BitVec 32 := Scalar.subi v203 v205
  let v207 : BitVec 1 := Scalar.cmpi .ne v201 v206
  let v208 : BitVec 32 := Scalar.remsi v2 c4_i32_132
  let c0_i32_137 : BitVec 32 := 0#32
  let v209 : BitVec 1 := Scalar.cmpi .ne v208 c0_i32_137
  let v210 : BitVec 1 := Scalar.andi v207 v209
  let v196 : BitVec 32 := Scalar.divsi v2 c4_i32_132
  let c1_i32_138 : BitVec 32 := 1#32
  let v211 : BitVec 32 := Scalar.subi v196 c1_i32_138
  let v212 : BitVec 32 := Scalar.select v210 v211 v196
  let c0_i32_150 : BitVec 32 := 0#32
  let v231 : BitVec 32 := Scalar.xori v212 c0_i32_150
  let c4_i32_151 : BitVec 32 := 4#32
  let v232 : BitVec 32 := Scalar.muli v231 c4_i32_151
  let c4_i32_139 : BitVec 32 := 4#32
  let c0_i32_140 : BitVec 32 := 0#32
  let v213 : BitVec 1 := Scalar.cmpi .eq c4_i32_139 c0_i32_140
  let c1_i32_141 : BitVec 32 := 1#32
  let v214 : BitVec 32 := Scalar.select v213 c1_i32_141 c4_i32_139
  let v215 : BitVec 32 := Scalar.remsi v2 v214
  let c0_i32_143 : BitVec 32 := 0#32
  let v217 : BitVec 1 := Scalar.cmpi .slt v215 c0_i32_143
  let c0_i32_144 : BitVec 32 := 0#32
  let v218 : BitVec 1 := Scalar.cmpi .slt v214 c0_i32_144
  let v219 : BitVec 1 := Scalar.xori v217 v218
  let c0_i32_142 : BitVec 32 := 0#32
  let v216 : BitVec 1 := Scalar.cmpi .ne v215 c0_i32_142
  let v220 : BitVec 1 := Scalar.andi v219 v216
  let v221 : BitVec 32 := Scalar.addi v215 v214
  let v222 : BitVec 32 := Scalar.select v220 v221 v215
  let c2_i32_145 : BitVec 32 := 2#32
  let v223 : BitVec 1 := Scalar.cmpi .sge v222 c2_i32_145
  let v224 : BitVec 32 := Scalar.extui v223
  let c1_i32_149 : BitVec 32 := 1#32
  let v230 : BitVec 32 := Scalar.xori v224 c1_i32_149
  let c3_i32_152 : BitVec 32 := 3#32
  let v233 : BitVec 32 := Scalar.muli v230 c3_i32_152
  let c1_i32_146 : BitVec 32 := 1#32
  let v225 : BitVec 1 := Scalar.cmpi .eq v222 c1_i32_146
  let c2_i32_147 : BitVec 32 := 2#32
  let v226 : BitVec 1 := Scalar.cmpi .eq v222 c2_i32_147
  let v227 : BitVec 1 := Scalar.ori v225 v226
  let v228 : BitVec 32 := Scalar.extui v227
  let c1_i32_148 : BitVec 32 := 1#32
  let v229 : BitVec 32 := Scalar.xori v228 c1_i32_148
  let v234 : BitVec 32 := Scalar.addi v233 v229
  let c2_i32_153 : BitVec 32 := 2#32
  let v235 : BitVec 32 := Scalar.muli c2_i32_153 v229
  let v236 : BitVec 32 := Scalar.muli v235 v230
  let v237 : BitVec 32 := Scalar.subi v234 v236
  let v238 : BitVec 32 := Scalar.addi v232 v237
  let c1_i32_161 : BitVec 32 := 1#32
  let v241 : BitVec 32 := Scalar.muli v238 c1_i32_161
  let v242 : BitVec 32 := Scalar.addi c0_i32_162 v241
  v242.toNat
def k0_dev12 (d0 : Dev nD) : Nat :=
  let c0_i32_196 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_167 : BitVec 32 := 0#32
  let v251 : BitVec 1 := Scalar.cmpi .sgt v2 c0_i32_167
  let v252 : BitVec 32 := Scalar.extui v251
  let c0_i32_168 : BitVec 32 := 0#32
  let v253 : BitVec 1 := Scalar.cmpi .slt v2 c0_i32_168
  let v254 : BitVec 32 := Scalar.extui v253
  let v255 : BitVec 32 := Scalar.subi v252 v254
  let c4_i32_166 : BitVec 32 := 4#32
  let c0_i32_169 : BitVec 32 := 0#32
  let v256 : BitVec 1 := Scalar.cmpi .sgt c4_i32_166 c0_i32_169
  let v257 : BitVec 32 := Scalar.extui v256
  let c0_i32_170 : BitVec 32 := 0#32
  let v258 : BitVec 1 := Scalar.cmpi .slt c4_i32_166 c0_i32_170
  let v259 : BitVec 32 := Scalar.extui v258
  let v260 : BitVec 32 := Scalar.subi v257 v259
  let v261 : BitVec 1 := Scalar.cmpi .ne v255 v260
  let v262 : BitVec 32 := Scalar.remsi v2 c4_i32_166
  let c0_i32_171 : BitVec 32 := 0#32
  let v263 : BitVec 1 := Scalar.cmpi .ne v262 c0_i32_171
  let v264 : BitVec 1 := Scalar.andi v261 v263
  let v250 : BitVec 32 := Scalar.divsi v2 c4_i32_166
  let c1_i32_172 : BitVec 32 := 1#32
  let v265 : BitVec 32 := Scalar.subi v250 c1_i32_172
  let v266 : BitVec 32 := Scalar.select v264 v265 v250
  let c1_i32_184 : BitVec 32 := 1#32
  let v285 : BitVec 32 := Scalar.xori v266 c1_i32_184
  let c4_i32_185 : BitVec 32 := 4#32
  let v286 : BitVec 32 := Scalar.muli v285 c4_i32_185
  let c4_i32_173 : BitVec 32 := 4#32
  let c0_i32_174 : BitVec 32 := 0#32
  let v267 : BitVec 1 := Scalar.cmpi .eq c4_i32_173 c0_i32_174
  let c1_i32_175 : BitVec 32 := 1#32
  let v268 : BitVec 32 := Scalar.select v267 c1_i32_175 c4_i32_173
  let v269 : BitVec 32 := Scalar.remsi v2 v268
  let c0_i32_177 : BitVec 32 := 0#32
  let v271 : BitVec 1 := Scalar.cmpi .slt v269 c0_i32_177
  let c0_i32_178 : BitVec 32 := 0#32
  let v272 : BitVec 1 := Scalar.cmpi .slt v268 c0_i32_178
  let v273 : BitVec 1 := Scalar.xori v271 v272
  let c0_i32_176 : BitVec 32 := 0#32
  let v270 : BitVec 1 := Scalar.cmpi .ne v269 c0_i32_176
  let v274 : BitVec 1 := Scalar.andi v273 v270
  let v275 : BitVec 32 := Scalar.addi v269 v268
  let v276 : BitVec 32 := Scalar.select v274 v275 v269
  let c2_i32_179 : BitVec 32 := 2#32
  let v277 : BitVec 1 := Scalar.cmpi .sge v276 c2_i32_179
  let v278 : BitVec 32 := Scalar.extui v277
  let c0_i32_183 : BitVec 32 := 0#32
  let v284 : BitVec 32 := Scalar.xori v278 c0_i32_183
  let c3_i32_186 : BitVec 32 := 3#32
  let v287 : BitVec 32 := Scalar.muli v284 c3_i32_186
  let c1_i32_180 : BitVec 32 := 1#32
  let v279 : BitVec 1 := Scalar.cmpi .eq v276 c1_i32_180
  let c2_i32_181 : BitVec 32 := 2#32
  let v280 : BitVec 1 := Scalar.cmpi .eq v276 c2_i32_181
  let v281 : BitVec 1 := Scalar.ori v279 v280
  let v282 : BitVec 32 := Scalar.extui v281
  let c1_i32_182 : BitVec 32 := 1#32
  let v283 : BitVec 32 := Scalar.xori v282 c1_i32_182
  let v288 : BitVec 32 := Scalar.addi v287 v283
  let c2_i32_187 : BitVec 32 := 2#32
  let v289 : BitVec 32 := Scalar.muli c2_i32_187 v283
  let v290 : BitVec 32 := Scalar.muli v289 v284
  let v291 : BitVec 32 := Scalar.subi v288 v290
  let v292 : BitVec 32 := Scalar.addi v286 v291
  let c1_i32_195 : BitVec 32 := 1#32
  let v295 : BitVec 32 := Scalar.muli v292 c1_i32_195
  let v296 : BitVec 32 := Scalar.addi c0_i32_196 v295
  v296.toNat
def k0_dev13 (d0 : Dev nD) : Nat :=
  let c0_i32_230 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_201 : BitVec 32 := 0#32
  let v305 : BitVec 1 := Scalar.cmpi .sgt v2 c0_i32_201
  let v306 : BitVec 32 := Scalar.extui v305
  let c0_i32_202 : BitVec 32 := 0#32
  let v307 : BitVec 1 := Scalar.cmpi .slt v2 c0_i32_202
  let v308 : BitVec 32 := Scalar.extui v307
  let v309 : BitVec 32 := Scalar.subi v306 v308
  let c4_i32_200 : BitVec 32 := 4#32
  let c0_i32_203 : BitVec 32 := 0#32
  let v310 : BitVec 1 := Scalar.cmpi .sgt c4_i32_200 c0_i32_203
  let v311 : BitVec 32 := Scalar.extui v310
  let c0_i32_204 : BitVec 32 := 0#32
  let v312 : BitVec 1 := Scalar.cmpi .slt c4_i32_200 c0_i32_204
  let v313 : BitVec 32 := Scalar.extui v312
  let v314 : BitVec 32 := Scalar.subi v311 v313
  let v315 : BitVec 1 := Scalar.cmpi .ne v309 v314
  let v316 : BitVec 32 := Scalar.remsi v2 c4_i32_200
  let c0_i32_205 : BitVec 32 := 0#32
  let v317 : BitVec 1 := Scalar.cmpi .ne v316 c0_i32_205
  let v318 : BitVec 1 := Scalar.andi v315 v317
  let v304 : BitVec 32 := Scalar.divsi v2 c4_i32_200
  let c1_i32_206 : BitVec 32 := 1#32
  let v319 : BitVec 32 := Scalar.subi v304 c1_i32_206
  let v320 : BitVec 32 := Scalar.select v318 v319 v304
  let c1_i32_218 : BitVec 32 := 1#32
  let v339 : BitVec 32 := Scalar.xori v320 c1_i32_218
  let c4_i32_219 : BitVec 32 := 4#32
  let v340 : BitVec 32 := Scalar.muli v339 c4_i32_219
  let c4_i32_207 : BitVec 32 := 4#32
  let c0_i32_208 : BitVec 32 := 0#32
  let v321 : BitVec 1 := Scalar.cmpi .eq c4_i32_207 c0_i32_208
  let c1_i32_209 : BitVec 32 := 1#32
  let v322 : BitVec 32 := Scalar.select v321 c1_i32_209 c4_i32_207
  let v323 : BitVec 32 := Scalar.remsi v2 v322
  let c0_i32_211 : BitVec 32 := 0#32
  let v325 : BitVec 1 := Scalar.cmpi .slt v323 c0_i32_211
  let c0_i32_212 : BitVec 32 := 0#32
  let v326 : BitVec 1 := Scalar.cmpi .slt v322 c0_i32_212
  let v327 : BitVec 1 := Scalar.xori v325 v326
  let c0_i32_210 : BitVec 32 := 0#32
  let v324 : BitVec 1 := Scalar.cmpi .ne v323 c0_i32_210
  let v328 : BitVec 1 := Scalar.andi v327 v324
  let v329 : BitVec 32 := Scalar.addi v323 v322
  let v330 : BitVec 32 := Scalar.select v328 v329 v323
  let c2_i32_213 : BitVec 32 := 2#32
  let v331 : BitVec 1 := Scalar.cmpi .sge v330 c2_i32_213
  let v332 : BitVec 32 := Scalar.extui v331
  let c1_i32_217 : BitVec 32 := 1#32
  let v338 : BitVec 32 := Scalar.xori v332 c1_i32_217
  let c3_i32_220 : BitVec 32 := 3#32
  let v341 : BitVec 32 := Scalar.muli v338 c3_i32_220
  let c1_i32_214 : BitVec 32 := 1#32
  let v333 : BitVec 1 := Scalar.cmpi .eq v330 c1_i32_214
  let c2_i32_215 : BitVec 32 := 2#32
  let v334 : BitVec 1 := Scalar.cmpi .eq v330 c2_i32_215
  let v335 : BitVec 1 := Scalar.ori v333 v334
  let v336 : BitVec 32 := Scalar.extui v335
  let c0_i32_216 : BitVec 32 := 0#32
  let v337 : BitVec 32 := Scalar.xori v336 c0_i32_216
  let v342 : BitVec 32 := Scalar.addi v341 v337
  let c2_i32_221 : BitVec 32 := 2#32
  let v343 : BitVec 32 := Scalar.muli c2_i32_221 v337
  let v344 : BitVec 32 := Scalar.muli v343 v338
  let v345 : BitVec 32 := Scalar.subi v342 v344
  let v346 : BitVec 32 := Scalar.addi v340 v345
  let c1_i32_229 : BitVec 32 := 1#32
  let v349 : BitVec 32 := Scalar.muli v346 c1_i32_229
  let v350 : BitVec 32 := Scalar.addi c0_i32_230 v349
  v350.toNat
def k0_dev14 (d0 : Dev nD) : Nat :=
  let c0_i32_264 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_235 : BitVec 32 := 0#32
  let v359 : BitVec 1 := Scalar.cmpi .sgt v2 c0_i32_235
  let v360 : BitVec 32 := Scalar.extui v359
  let c0_i32_236 : BitVec 32 := 0#32
  let v361 : BitVec 1 := Scalar.cmpi .slt v2 c0_i32_236
  let v362 : BitVec 32 := Scalar.extui v361
  let v363 : BitVec 32 := Scalar.subi v360 v362
  let c4_i32_234 : BitVec 32 := 4#32
  let c0_i32_237 : BitVec 32 := 0#32
  let v364 : BitVec 1 := Scalar.cmpi .sgt c4_i32_234 c0_i32_237
  let v365 : BitVec 32 := Scalar.extui v364
  let c0_i32_238 : BitVec 32 := 0#32
  let v366 : BitVec 1 := Scalar.cmpi .slt c4_i32_234 c0_i32_238
  let v367 : BitVec 32 := Scalar.extui v366
  let v368 : BitVec 32 := Scalar.subi v365 v367
  let v369 : BitVec 1 := Scalar.cmpi .ne v363 v368
  let v370 : BitVec 32 := Scalar.remsi v2 c4_i32_234
  let c0_i32_239 : BitVec 32 := 0#32
  let v371 : BitVec 1 := Scalar.cmpi .ne v370 c0_i32_239
  let v372 : BitVec 1 := Scalar.andi v369 v371
  let v358 : BitVec 32 := Scalar.divsi v2 c4_i32_234
  let c1_i32_240 : BitVec 32 := 1#32
  let v373 : BitVec 32 := Scalar.subi v358 c1_i32_240
  let v374 : BitVec 32 := Scalar.select v372 v373 v358
  let c1_i32_252 : BitVec 32 := 1#32
  let v393 : BitVec 32 := Scalar.xori v374 c1_i32_252
  let c4_i32_253 : BitVec 32 := 4#32
  let v394 : BitVec 32 := Scalar.muli v393 c4_i32_253
  let c4_i32_241 : BitVec 32 := 4#32
  let c0_i32_242 : BitVec 32 := 0#32
  let v375 : BitVec 1 := Scalar.cmpi .eq c4_i32_241 c0_i32_242
  let c1_i32_243 : BitVec 32 := 1#32
  let v376 : BitVec 32 := Scalar.select v375 c1_i32_243 c4_i32_241
  let v377 : BitVec 32 := Scalar.remsi v2 v376
  let c0_i32_245 : BitVec 32 := 0#32
  let v379 : BitVec 1 := Scalar.cmpi .slt v377 c0_i32_245
  let c0_i32_246 : BitVec 32 := 0#32
  let v380 : BitVec 1 := Scalar.cmpi .slt v376 c0_i32_246
  let v381 : BitVec 1 := Scalar.xori v379 v380
  let c0_i32_244 : BitVec 32 := 0#32
  let v378 : BitVec 1 := Scalar.cmpi .ne v377 c0_i32_244
  let v382 : BitVec 1 := Scalar.andi v381 v378
  let v383 : BitVec 32 := Scalar.addi v377 v376
  let v384 : BitVec 32 := Scalar.select v382 v383 v377
  let c2_i32_247 : BitVec 32 := 2#32
  let v385 : BitVec 1 := Scalar.cmpi .sge v384 c2_i32_247
  let v386 : BitVec 32 := Scalar.extui v385
  let c1_i32_251 : BitVec 32 := 1#32
  let v392 : BitVec 32 := Scalar.xori v386 c1_i32_251
  let c3_i32_254 : BitVec 32 := 3#32
  let v395 : BitVec 32 := Scalar.muli v392 c3_i32_254
  let c1_i32_248 : BitVec 32 := 1#32
  let v387 : BitVec 1 := Scalar.cmpi .eq v384 c1_i32_248
  let c2_i32_249 : BitVec 32 := 2#32
  let v388 : BitVec 1 := Scalar.cmpi .eq v384 c2_i32_249
  let v389 : BitVec 1 := Scalar.ori v387 v388
  let v390 : BitVec 32 := Scalar.extui v389
  let c1_i32_250 : BitVec 32 := 1#32
  let v391 : BitVec 32 := Scalar.xori v390 c1_i32_250
  let v396 : BitVec 32 := Scalar.addi v395 v391
  let c2_i32_255 : BitVec 32 := 2#32
  let v397 : BitVec 32 := Scalar.muli c2_i32_255 v391
  let v398 : BitVec 32 := Scalar.muli v397 v392
  let v399 : BitVec 32 := Scalar.subi v396 v398
  let v400 : BitVec 32 := Scalar.addi v394 v399
  let c1_i32_263 : BitVec 32 := 1#32
  let v403 : BitVec 32 := Scalar.muli v400 c1_i32_263
  let v404 : BitVec 32 := Scalar.addi c0_i32_264 v403
  v404.toNat
def k0_dev15 (d0 : Dev nD) : Nat :=
  let c0_i32_297 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_269 : BitVec 32 := 0#32
  let v413 : BitVec 1 := Scalar.cmpi .sgt v2 c0_i32_269
  let v414 : BitVec 32 := Scalar.extui v413
  let c0_i32_270 : BitVec 32 := 0#32
  let v415 : BitVec 1 := Scalar.cmpi .slt v2 c0_i32_270
  let v416 : BitVec 32 := Scalar.extui v415
  let v417 : BitVec 32 := Scalar.subi v414 v416
  let c4_i32_268 : BitVec 32 := 4#32
  let c0_i32_271 : BitVec 32 := 0#32
  let v418 : BitVec 1 := Scalar.cmpi .sgt c4_i32_268 c0_i32_271
  let v419 : BitVec 32 := Scalar.extui v418
  let c0_i32_272 : BitVec 32 := 0#32
  let v420 : BitVec 1 := Scalar.cmpi .slt c4_i32_268 c0_i32_272
  let v421 : BitVec 32 := Scalar.extui v420
  let v422 : BitVec 32 := Scalar.subi v419 v421
  let v423 : BitVec 1 := Scalar.cmpi .ne v417 v422
  let v424 : BitVec 32 := Scalar.remsi v2 c4_i32_268
  let c0_i32_273 : BitVec 32 := 0#32
  let v425 : BitVec 1 := Scalar.cmpi .ne v424 c0_i32_273
  let v426 : BitVec 1 := Scalar.andi v423 v425
  let v412 : BitVec 32 := Scalar.divsi v2 c4_i32_268
  let c1_i32_274 : BitVec 32 := 1#32
  let v427 : BitVec 32 := Scalar.subi v412 c1_i32_274
  let v428 : BitVec 32 := Scalar.select v426 v427 v412
  let c0_i32_286 : BitVec 32 := 0#32
  let v447 : BitVec 32 := Scalar.xori v428 c0_i32_286
  let c4_i32_287 : BitVec 32 := 4#32
  let v448 : BitVec 32 := Scalar.muli v447 c4_i32_287
  let c4_i32_275 : BitVec 32 := 4#32
  let c0_i32_276 : BitVec 32 := 0#32
  let v429 : BitVec 1 := Scalar.cmpi .eq c4_i32_275 c0_i32_276
  let c1_i32_277 : BitVec 32 := 1#32
  let v430 : BitVec 32 := Scalar.select v429 c1_i32_277 c4_i32_275
  let v431 : BitVec 32 := Scalar.remsi v2 v430
  let c0_i32_279 : BitVec 32 := 0#32
  let v433 : BitVec 1 := Scalar.cmpi .slt v431 c0_i32_279
  let c0_i32_280 : BitVec 32 := 0#32
  let v434 : BitVec 1 := Scalar.cmpi .slt v430 c0_i32_280
  let v435 : BitVec 1 := Scalar.xori v433 v434
  let c0_i32_278 : BitVec 32 := 0#32
  let v432 : BitVec 1 := Scalar.cmpi .ne v431 c0_i32_278
  let v436 : BitVec 1 := Scalar.andi v435 v432
  let v437 : BitVec 32 := Scalar.addi v431 v430
  let v438 : BitVec 32 := Scalar.select v436 v437 v431
  let c2_i32_281 : BitVec 32 := 2#32
  let v439 : BitVec 1 := Scalar.cmpi .sge v438 c2_i32_281
  let v440 : BitVec 32 := Scalar.extui v439
  let c0_i32_285 : BitVec 32 := 0#32
  let v446 : BitVec 32 := Scalar.xori v440 c0_i32_285
  let c3_i32_288 : BitVec 32 := 3#32
  let v449 : BitVec 32 := Scalar.muli v446 c3_i32_288
  let c1_i32_282 : BitVec 32 := 1#32
  let v441 : BitVec 1 := Scalar.cmpi .eq v438 c1_i32_282
  let c2_i32_283 : BitVec 32 := 2#32
  let v442 : BitVec 1 := Scalar.cmpi .eq v438 c2_i32_283
  let v443 : BitVec 1 := Scalar.ori v441 v442
  let v444 : BitVec 32 := Scalar.extui v443
  let c1_i32_284 : BitVec 32 := 1#32
  let v445 : BitVec 32 := Scalar.xori v444 c1_i32_284
  let v450 : BitVec 32 := Scalar.addi v449 v445
  let c2_i32_289 : BitVec 32 := 2#32
  let v451 : BitVec 32 := Scalar.muli c2_i32_289 v445
  let v452 : BitVec 32 := Scalar.muli v451 v446
  let v453 : BitVec 32 := Scalar.subi v450 v452
  let v454 : BitVec 32 := Scalar.addi v448 v453
  let c1_i32_296 : BitVec 32 := 1#32
  let v457 : BitVec 32 := Scalar.muli v454 c1_i32_296
  let v458 : BitVec 32 := Scalar.addi c0_i32_297 v457
  v458.toNat
def k0_dev16 (d0 : Dev nD) : Nat :=
  let c0_i32_331 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_302 : BitVec 32 := 0#32
  let v467 : BitVec 1 := Scalar.cmpi .sgt v2 c0_i32_302
  let v468 : BitVec 32 := Scalar.extui v467
  let c0_i32_303 : BitVec 32 := 0#32
  let v469 : BitVec 1 := Scalar.cmpi .slt v2 c0_i32_303
  let v470 : BitVec 32 := Scalar.extui v469
  let v471 : BitVec 32 := Scalar.subi v468 v470
  let c4_i32_301 : BitVec 32 := 4#32
  let c0_i32_304 : BitVec 32 := 0#32
  let v472 : BitVec 1 := Scalar.cmpi .sgt c4_i32_301 c0_i32_304
  let v473 : BitVec 32 := Scalar.extui v472
  let c0_i32_305 : BitVec 32 := 0#32
  let v474 : BitVec 1 := Scalar.cmpi .slt c4_i32_301 c0_i32_305
  let v475 : BitVec 32 := Scalar.extui v474
  let v476 : BitVec 32 := Scalar.subi v473 v475
  let v477 : BitVec 1 := Scalar.cmpi .ne v471 v476
  let v478 : BitVec 32 := Scalar.remsi v2 c4_i32_301
  let c0_i32_306 : BitVec 32 := 0#32
  let v479 : BitVec 1 := Scalar.cmpi .ne v478 c0_i32_306
  let v480 : BitVec 1 := Scalar.andi v477 v479
  let v466 : BitVec 32 := Scalar.divsi v2 c4_i32_301
  let c1_i32_307 : BitVec 32 := 1#32
  let v481 : BitVec 32 := Scalar.subi v466 c1_i32_307
  let v482 : BitVec 32 := Scalar.select v480 v481 v466
  let c0_i32_319 : BitVec 32 := 0#32
  let v501 : BitVec 32 := Scalar.xori v482 c0_i32_319
  let c4_i32_320 : BitVec 32 := 4#32
  let v502 : BitVec 32 := Scalar.muli v501 c4_i32_320
  let c4_i32_308 : BitVec 32 := 4#32
  let c0_i32_309 : BitVec 32 := 0#32
  let v483 : BitVec 1 := Scalar.cmpi .eq c4_i32_308 c0_i32_309
  let c1_i32_310 : BitVec 32 := 1#32
  let v484 : BitVec 32 := Scalar.select v483 c1_i32_310 c4_i32_308
  let v485 : BitVec 32 := Scalar.remsi v2 v484
  let c0_i32_312 : BitVec 32 := 0#32
  let v487 : BitVec 1 := Scalar.cmpi .slt v485 c0_i32_312
  let c0_i32_313 : BitVec 32 := 0#32
  let v488 : BitVec 1 := Scalar.cmpi .slt v484 c0_i32_313
  let v489 : BitVec 1 := Scalar.xori v487 v488
  let c0_i32_311 : BitVec 32 := 0#32
  let v486 : BitVec 1 := Scalar.cmpi .ne v485 c0_i32_311
  let v490 : BitVec 1 := Scalar.andi v489 v486
  let v491 : BitVec 32 := Scalar.addi v485 v484
  let v492 : BitVec 32 := Scalar.select v490 v491 v485
  let c2_i32_314 : BitVec 32 := 2#32
  let v493 : BitVec 1 := Scalar.cmpi .sge v492 c2_i32_314
  let v494 : BitVec 32 := Scalar.extui v493
  let c1_i32_318 : BitVec 32 := 1#32
  let v500 : BitVec 32 := Scalar.xori v494 c1_i32_318
  let c3_i32_321 : BitVec 32 := 3#32
  let v503 : BitVec 32 := Scalar.muli v500 c3_i32_321
  let c1_i32_315 : BitVec 32 := 1#32
  let v495 : BitVec 1 := Scalar.cmpi .eq v492 c1_i32_315
  let c2_i32_316 : BitVec 32 := 2#32
  let v496 : BitVec 1 := Scalar.cmpi .eq v492 c2_i32_316
  let v497 : BitVec 1 := Scalar.ori v495 v496
  let v498 : BitVec 32 := Scalar.extui v497
  let c0_i32_317 : BitVec 32 := 0#32
  let v499 : BitVec 32 := Scalar.xori v498 c0_i32_317
  let v504 : BitVec 32 := Scalar.addi v503 v499
  let c2_i32_322 : BitVec 32 := 2#32
  let v505 : BitVec 32 := Scalar.muli c2_i32_322 v499
  let v506 : BitVec 32 := Scalar.muli v505 v500
  let v507 : BitVec 32 := Scalar.subi v504 v506
  let v508 : BitVec 32 := Scalar.addi v502 v507
  let c1_i32_330 : BitVec 32 := 1#32
  let v511 : BitVec 32 := Scalar.muli v508 c1_i32_330
  let v512 : BitVec 32 := Scalar.addi c0_i32_331 v511
  v512.toNat
def k0_dev17 (d0 : Dev nD) : Nat :=
  let c0_i32_365 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_336 : BitVec 32 := 0#32
  let v521 : BitVec 1 := Scalar.cmpi .sgt v2 c0_i32_336
  let v522 : BitVec 32 := Scalar.extui v521
  let c0_i32_337 : BitVec 32 := 0#32
  let v523 : BitVec 1 := Scalar.cmpi .slt v2 c0_i32_337
  let v524 : BitVec 32 := Scalar.extui v523
  let v525 : BitVec 32 := Scalar.subi v522 v524
  let c4_i32_335 : BitVec 32 := 4#32
  let c0_i32_338 : BitVec 32 := 0#32
  let v526 : BitVec 1 := Scalar.cmpi .sgt c4_i32_335 c0_i32_338
  let v527 : BitVec 32 := Scalar.extui v526
  let c0_i32_339 : BitVec 32 := 0#32
  let v528 : BitVec 1 := Scalar.cmpi .slt c4_i32_335 c0_i32_339
  let v529 : BitVec 32 := Scalar.extui v528
  let v530 : BitVec 32 := Scalar.subi v527 v529
  let v531 : BitVec 1 := Scalar.cmpi .ne v525 v530
  let v532 : BitVec 32 := Scalar.remsi v2 c4_i32_335
  let c0_i32_340 : BitVec 32 := 0#32
  let v533 : BitVec 1 := Scalar.cmpi .ne v532 c0_i32_340
  let v534 : BitVec 1 := Scalar.andi v531 v533
  let v520 : BitVec 32 := Scalar.divsi v2 c4_i32_335
  let c1_i32_341 : BitVec 32 := 1#32
  let v535 : BitVec 32 := Scalar.subi v520 c1_i32_341
  let v536 : BitVec 32 := Scalar.select v534 v535 v520
  let c1_i32_353 : BitVec 32 := 1#32
  let v555 : BitVec 32 := Scalar.xori v536 c1_i32_353
  let c4_i32_354 : BitVec 32 := 4#32
  let v556 : BitVec 32 := Scalar.muli v555 c4_i32_354
  let c4_i32_342 : BitVec 32 := 4#32
  let c0_i32_343 : BitVec 32 := 0#32
  let v537 : BitVec 1 := Scalar.cmpi .eq c4_i32_342 c0_i32_343
  let c1_i32_344 : BitVec 32 := 1#32
  let v538 : BitVec 32 := Scalar.select v537 c1_i32_344 c4_i32_342
  let v539 : BitVec 32 := Scalar.remsi v2 v538
  let c0_i32_346 : BitVec 32 := 0#32
  let v541 : BitVec 1 := Scalar.cmpi .slt v539 c0_i32_346
  let c0_i32_347 : BitVec 32 := 0#32
  let v542 : BitVec 1 := Scalar.cmpi .slt v538 c0_i32_347
  let v543 : BitVec 1 := Scalar.xori v541 v542
  let c0_i32_345 : BitVec 32 := 0#32
  let v540 : BitVec 1 := Scalar.cmpi .ne v539 c0_i32_345
  let v544 : BitVec 1 := Scalar.andi v543 v540
  let v545 : BitVec 32 := Scalar.addi v539 v538
  let v546 : BitVec 32 := Scalar.select v544 v545 v539
  let c2_i32_348 : BitVec 32 := 2#32
  let v547 : BitVec 1 := Scalar.cmpi .sge v546 c2_i32_348
  let v548 : BitVec 32 := Scalar.extui v547
  let c0_i32_352 : BitVec 32 := 0#32
  let v554 : BitVec 32 := Scalar.xori v548 c0_i32_352
  let c3_i32_355 : BitVec 32 := 3#32
  let v557 : BitVec 32 := Scalar.muli v554 c3_i32_355
  let c1_i32_349 : BitVec 32 := 1#32
  let v549 : BitVec 1 := Scalar.cmpi .eq v546 c1_i32_349
  let c2_i32_350 : BitVec 32 := 2#32
  let v550 : BitVec 1 := Scalar.cmpi .eq v546 c2_i32_350
  let v551 : BitVec 1 := Scalar.ori v549 v550
  let v552 : BitVec 32 := Scalar.extui v551
  let c0_i32_351 : BitVec 32 := 0#32
  let v553 : BitVec 32 := Scalar.xori v552 c0_i32_351
  let v558 : BitVec 32 := Scalar.addi v557 v553
  let c2_i32_356 : BitVec 32 := 2#32
  let v559 : BitVec 32 := Scalar.muli c2_i32_356 v553
  let v560 : BitVec 32 := Scalar.muli v559 v554
  let v561 : BitVec 32 := Scalar.subi v558 v560
  let v562 : BitVec 32 := Scalar.addi v556 v561
  let c1_i32_364 : BitVec 32 := 1#32
  let v565 : BitVec 32 := Scalar.muli v562 c1_i32_364
  let v566 : BitVec 32 := Scalar.addi c0_i32_365 v565
  v566.toNat
def k0_dev18 (d0 : Dev nD) : Nat :=
  let c0_i32_399 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_370 : BitVec 32 := 0#32
  let v575 : BitVec 1 := Scalar.cmpi .sgt v2 c0_i32_370
  let v576 : BitVec 32 := Scalar.extui v575
  let c0_i32_371 : BitVec 32 := 0#32
  let v577 : BitVec 1 := Scalar.cmpi .slt v2 c0_i32_371
  let v578 : BitVec 32 := Scalar.extui v577
  let v579 : BitVec 32 := Scalar.subi v576 v578
  let c4_i32_369 : BitVec 32 := 4#32
  let c0_i32_372 : BitVec 32 := 0#32
  let v580 : BitVec 1 := Scalar.cmpi .sgt c4_i32_369 c0_i32_372
  let v581 : BitVec 32 := Scalar.extui v580
  let c0_i32_373 : BitVec 32 := 0#32
  let v582 : BitVec 1 := Scalar.cmpi .slt c4_i32_369 c0_i32_373
  let v583 : BitVec 32 := Scalar.extui v582
  let v584 : BitVec 32 := Scalar.subi v581 v583
  let v585 : BitVec 1 := Scalar.cmpi .ne v579 v584
  let v586 : BitVec 32 := Scalar.remsi v2 c4_i32_369
  let c0_i32_374 : BitVec 32 := 0#32
  let v587 : BitVec 1 := Scalar.cmpi .ne v586 c0_i32_374
  let v588 : BitVec 1 := Scalar.andi v585 v587
  let v574 : BitVec 32 := Scalar.divsi v2 c4_i32_369
  let c1_i32_375 : BitVec 32 := 1#32
  let v589 : BitVec 32 := Scalar.subi v574 c1_i32_375
  let v590 : BitVec 32 := Scalar.select v588 v589 v574
  let c0_i32_387 : BitVec 32 := 0#32
  let v609 : BitVec 32 := Scalar.xori v590 c0_i32_387
  let c4_i32_388 : BitVec 32 := 4#32
  let v610 : BitVec 32 := Scalar.muli v609 c4_i32_388
  let c4_i32_376 : BitVec 32 := 4#32
  let c0_i32_377 : BitVec 32 := 0#32
  let v591 : BitVec 1 := Scalar.cmpi .eq c4_i32_376 c0_i32_377
  let c1_i32_378 : BitVec 32 := 1#32
  let v592 : BitVec 32 := Scalar.select v591 c1_i32_378 c4_i32_376
  let v593 : BitVec 32 := Scalar.remsi v2 v592
  let c0_i32_380 : BitVec 32 := 0#32
  let v595 : BitVec 1 := Scalar.cmpi .slt v593 c0_i32_380
  let c0_i32_381 : BitVec 32 := 0#32
  let v596 : BitVec 1 := Scalar.cmpi .slt v592 c0_i32_381
  let v597 : BitVec 1 := Scalar.xori v595 v596
  let c0_i32_379 : BitVec 32 := 0#32
  let v594 : BitVec 1 := Scalar.cmpi .ne v593 c0_i32_379
  let v598 : BitVec 1 := Scalar.andi v597 v594
  let v599 : BitVec 32 := Scalar.addi v593 v592
  let v600 : BitVec 32 := Scalar.select v598 v599 v593
  let c2_i32_382 : BitVec 32 := 2#32
  let v601 : BitVec 1 := Scalar.cmpi .sge v600 c2_i32_382
  let v602 : BitVec 32 := Scalar.extui v601
  let c1_i32_386 : BitVec 32 := 1#32
  let v608 : BitVec 32 := Scalar.xori v602 c1_i32_386
  let c3_i32_389 : BitVec 32 := 3#32
  let v611 : BitVec 32 := Scalar.muli v608 c3_i32_389
  let c1_i32_383 : BitVec 32 := 1#32
  let v603 : BitVec 1 := Scalar.cmpi .eq v600 c1_i32_383
  let c2_i32_384 : BitVec 32 := 2#32
  let v604 : BitVec 1 := Scalar.cmpi .eq v600 c2_i32_384
  let v605 : BitVec 1 := Scalar.ori v603 v604
  let v606 : BitVec 32 := Scalar.extui v605
  let c1_i32_385 : BitVec 32 := 1#32
  let v607 : BitVec 32 := Scalar.xori v606 c1_i32_385
  let v612 : BitVec 32 := Scalar.addi v611 v607
  let c2_i32_390 : BitVec 32 := 2#32
  let v613 : BitVec 32 := Scalar.muli c2_i32_390 v607
  let v614 : BitVec 32 := Scalar.muli v613 v608
  let v615 : BitVec 32 := Scalar.subi v612 v614
  let v616 : BitVec 32 := Scalar.addi v610 v615
  let c1_i32_398 : BitVec 32 := 1#32
  let v619 : BitVec 32 := Scalar.muli v616 c1_i32_398
  let v620 : BitVec 32 := Scalar.addi c0_i32_399 v619
  v620.toNat
def k0_dev19 (d0 : Dev nD) : Nat :=
  let c0_i32_433 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_404 : BitVec 32 := 0#32
  let v629 : BitVec 1 := Scalar.cmpi .sgt v2 c0_i32_404
  let v630 : BitVec 32 := Scalar.extui v629
  let c0_i32_405 : BitVec 32 := 0#32
  let v631 : BitVec 1 := Scalar.cmpi .slt v2 c0_i32_405
  let v632 : BitVec 32 := Scalar.extui v631
  let v633 : BitVec 32 := Scalar.subi v630 v632
  let c4_i32_403 : BitVec 32 := 4#32
  let c0_i32_406 : BitVec 32 := 0#32
  let v634 : BitVec 1 := Scalar.cmpi .sgt c4_i32_403 c0_i32_406
  let v635 : BitVec 32 := Scalar.extui v634
  let c0_i32_407 : BitVec 32 := 0#32
  let v636 : BitVec 1 := Scalar.cmpi .slt c4_i32_403 c0_i32_407
  let v637 : BitVec 32 := Scalar.extui v636
  let v638 : BitVec 32 := Scalar.subi v635 v637
  let v639 : BitVec 1 := Scalar.cmpi .ne v633 v638
  let v640 : BitVec 32 := Scalar.remsi v2 c4_i32_403
  let c0_i32_408 : BitVec 32 := 0#32
  let v641 : BitVec 1 := Scalar.cmpi .ne v640 c0_i32_408
  let v642 : BitVec 1 := Scalar.andi v639 v641
  let v628 : BitVec 32 := Scalar.divsi v2 c4_i32_403
  let c1_i32_409 : BitVec 32 := 1#32
  let v643 : BitVec 32 := Scalar.subi v628 c1_i32_409
  let v644 : BitVec 32 := Scalar.select v642 v643 v628
  let c1_i32_421 : BitVec 32 := 1#32
  let v663 : BitVec 32 := Scalar.xori v644 c1_i32_421
  let c4_i32_422 : BitVec 32 := 4#32
  let v664 : BitVec 32 := Scalar.muli v663 c4_i32_422
  let c4_i32_410 : BitVec 32 := 4#32
  let c0_i32_411 : BitVec 32 := 0#32
  let v645 : BitVec 1 := Scalar.cmpi .eq c4_i32_410 c0_i32_411
  let c1_i32_412 : BitVec 32 := 1#32
  let v646 : BitVec 32 := Scalar.select v645 c1_i32_412 c4_i32_410
  let v647 : BitVec 32 := Scalar.remsi v2 v646
  let c0_i32_414 : BitVec 32 := 0#32
  let v649 : BitVec 1 := Scalar.cmpi .slt v647 c0_i32_414
  let c0_i32_415 : BitVec 32 := 0#32
  let v650 : BitVec 1 := Scalar.cmpi .slt v646 c0_i32_415
  let v651 : BitVec 1 := Scalar.xori v649 v650
  let c0_i32_413 : BitVec 32 := 0#32
  let v648 : BitVec 1 := Scalar.cmpi .ne v647 c0_i32_413
  let v652 : BitVec 1 := Scalar.andi v651 v648
  let v653 : BitVec 32 := Scalar.addi v647 v646
  let v654 : BitVec 32 := Scalar.select v652 v653 v647
  let c2_i32_416 : BitVec 32 := 2#32
  let v655 : BitVec 1 := Scalar.cmpi .sge v654 c2_i32_416
  let v656 : BitVec 32 := Scalar.extui v655
  let c0_i32_420 : BitVec 32 := 0#32
  let v662 : BitVec 32 := Scalar.xori v656 c0_i32_420
  let c3_i32_423 : BitVec 32 := 3#32
  let v665 : BitVec 32 := Scalar.muli v662 c3_i32_423
  let c1_i32_417 : BitVec 32 := 1#32
  let v657 : BitVec 1 := Scalar.cmpi .eq v654 c1_i32_417
  let c2_i32_418 : BitVec 32 := 2#32
  let v658 : BitVec 1 := Scalar.cmpi .eq v654 c2_i32_418
  let v659 : BitVec 1 := Scalar.ori v657 v658
  let v660 : BitVec 32 := Scalar.extui v659
  let c1_i32_419 : BitVec 32 := 1#32
  let v661 : BitVec 32 := Scalar.xori v660 c1_i32_419
  let v666 : BitVec 32 := Scalar.addi v665 v661
  let c2_i32_424 : BitVec 32 := 2#32
  let v667 : BitVec 32 := Scalar.muli c2_i32_424 v661
  let v668 : BitVec 32 := Scalar.muli v667 v662
  let v669 : BitVec 32 := Scalar.subi v666 v668
  let v670 : BitVec 32 := Scalar.addi v664 v669
  let c1_i32_432 : BitVec 32 := 1#32
  let v673 : BitVec 32 := Scalar.muli v670 c1_i32_432
  let v674 : BitVec 32 := Scalar.addi c0_i32_433 v673
  v674.toNat
def k0_dev20 (d0 : Dev nD) : Nat :=
  let c0_i32_467 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_438 : BitVec 32 := 0#32
  let v683 : BitVec 1 := Scalar.cmpi .sgt v2 c0_i32_438
  let v684 : BitVec 32 := Scalar.extui v683
  let c0_i32_439 : BitVec 32 := 0#32
  let v685 : BitVec 1 := Scalar.cmpi .slt v2 c0_i32_439
  let v686 : BitVec 32 := Scalar.extui v685
  let v687 : BitVec 32 := Scalar.subi v684 v686
  let c4_i32_437 : BitVec 32 := 4#32
  let c0_i32_440 : BitVec 32 := 0#32
  let v688 : BitVec 1 := Scalar.cmpi .sgt c4_i32_437 c0_i32_440
  let v689 : BitVec 32 := Scalar.extui v688
  let c0_i32_441 : BitVec 32 := 0#32
  let v690 : BitVec 1 := Scalar.cmpi .slt c4_i32_437 c0_i32_441
  let v691 : BitVec 32 := Scalar.extui v690
  let v692 : BitVec 32 := Scalar.subi v689 v691
  let v693 : BitVec 1 := Scalar.cmpi .ne v687 v692
  let v694 : BitVec 32 := Scalar.remsi v2 c4_i32_437
  let c0_i32_442 : BitVec 32 := 0#32
  let v695 : BitVec 1 := Scalar.cmpi .ne v694 c0_i32_442
  let v696 : BitVec 1 := Scalar.andi v693 v695
  let v682 : BitVec 32 := Scalar.divsi v2 c4_i32_437
  let c1_i32_443 : BitVec 32 := 1#32
  let v697 : BitVec 32 := Scalar.subi v682 c1_i32_443
  let v698 : BitVec 32 := Scalar.select v696 v697 v682
  let c1_i32_455 : BitVec 32 := 1#32
  let v717 : BitVec 32 := Scalar.xori v698 c1_i32_455
  let c4_i32_456 : BitVec 32 := 4#32
  let v718 : BitVec 32 := Scalar.muli v717 c4_i32_456
  let c4_i32_444 : BitVec 32 := 4#32
  let c0_i32_445 : BitVec 32 := 0#32
  let v699 : BitVec 1 := Scalar.cmpi .eq c4_i32_444 c0_i32_445
  let c1_i32_446 : BitVec 32 := 1#32
  let v700 : BitVec 32 := Scalar.select v699 c1_i32_446 c4_i32_444
  let v701 : BitVec 32 := Scalar.remsi v2 v700
  let c0_i32_448 : BitVec 32 := 0#32
  let v703 : BitVec 1 := Scalar.cmpi .slt v701 c0_i32_448
  let c0_i32_449 : BitVec 32 := 0#32
  let v704 : BitVec 1 := Scalar.cmpi .slt v700 c0_i32_449
  let v705 : BitVec 1 := Scalar.xori v703 v704
  let c0_i32_447 : BitVec 32 := 0#32
  let v702 : BitVec 1 := Scalar.cmpi .ne v701 c0_i32_447
  let v706 : BitVec 1 := Scalar.andi v705 v702
  let v707 : BitVec 32 := Scalar.addi v701 v700
  let v708 : BitVec 32 := Scalar.select v706 v707 v701
  let c2_i32_450 : BitVec 32 := 2#32
  let v709 : BitVec 1 := Scalar.cmpi .sge v708 c2_i32_450
  let v710 : BitVec 32 := Scalar.extui v709
  let c1_i32_454 : BitVec 32 := 1#32
  let v716 : BitVec 32 := Scalar.xori v710 c1_i32_454
  let c3_i32_457 : BitVec 32 := 3#32
  let v719 : BitVec 32 := Scalar.muli v716 c3_i32_457
  let c1_i32_451 : BitVec 32 := 1#32
  let v711 : BitVec 1 := Scalar.cmpi .eq v708 c1_i32_451
  let c2_i32_452 : BitVec 32 := 2#32
  let v712 : BitVec 1 := Scalar.cmpi .eq v708 c2_i32_452
  let v713 : BitVec 1 := Scalar.ori v711 v712
  let v714 : BitVec 32 := Scalar.extui v713
  let c0_i32_453 : BitVec 32 := 0#32
  let v715 : BitVec 32 := Scalar.xori v714 c0_i32_453
  let v720 : BitVec 32 := Scalar.addi v719 v715
  let c2_i32_458 : BitVec 32 := 2#32
  let v721 : BitVec 32 := Scalar.muli c2_i32_458 v715
  let v722 : BitVec 32 := Scalar.muli v721 v716
  let v723 : BitVec 32 := Scalar.subi v720 v722
  let v724 : BitVec 32 := Scalar.addi v718 v723
  let c1_i32_466 : BitVec 32 := 1#32
  let v727 : BitVec 32 := Scalar.muli v724 c1_i32_466
  let v728 : BitVec 32 := Scalar.addi c0_i32_467 v727
  v728.toNat
def k0_dev21 (d0 : Dev nD) : Nat :=
  let c0_i32_501 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_472 : BitVec 32 := 0#32
  let v737 : BitVec 1 := Scalar.cmpi .sgt v2 c0_i32_472
  let v738 : BitVec 32 := Scalar.extui v737
  let c0_i32_473 : BitVec 32 := 0#32
  let v739 : BitVec 1 := Scalar.cmpi .slt v2 c0_i32_473
  let v740 : BitVec 32 := Scalar.extui v739
  let v741 : BitVec 32 := Scalar.subi v738 v740
  let c4_i32_471 : BitVec 32 := 4#32
  let c0_i32_474 : BitVec 32 := 0#32
  let v742 : BitVec 1 := Scalar.cmpi .sgt c4_i32_471 c0_i32_474
  let v743 : BitVec 32 := Scalar.extui v742
  let c0_i32_475 : BitVec 32 := 0#32
  let v744 : BitVec 1 := Scalar.cmpi .slt c4_i32_471 c0_i32_475
  let v745 : BitVec 32 := Scalar.extui v744
  let v746 : BitVec 32 := Scalar.subi v743 v745
  let v747 : BitVec 1 := Scalar.cmpi .ne v741 v746
  let v748 : BitVec 32 := Scalar.remsi v2 c4_i32_471
  let c0_i32_476 : BitVec 32 := 0#32
  let v749 : BitVec 1 := Scalar.cmpi .ne v748 c0_i32_476
  let v750 : BitVec 1 := Scalar.andi v747 v749
  let v736 : BitVec 32 := Scalar.divsi v2 c4_i32_471
  let c1_i32_477 : BitVec 32 := 1#32
  let v751 : BitVec 32 := Scalar.subi v736 c1_i32_477
  let v752 : BitVec 32 := Scalar.select v750 v751 v736
  let c1_i32_489 : BitVec 32 := 1#32
  let v771 : BitVec 32 := Scalar.xori v752 c1_i32_489
  let c4_i32_490 : BitVec 32 := 4#32
  let v772 : BitVec 32 := Scalar.muli v771 c4_i32_490
  let c4_i32_478 : BitVec 32 := 4#32
  let c0_i32_479 : BitVec 32 := 0#32
  let v753 : BitVec 1 := Scalar.cmpi .eq c4_i32_478 c0_i32_479
  let c1_i32_480 : BitVec 32 := 1#32
  let v754 : BitVec 32 := Scalar.select v753 c1_i32_480 c4_i32_478
  let v755 : BitVec 32 := Scalar.remsi v2 v754
  let c0_i32_482 : BitVec 32 := 0#32
  let v757 : BitVec 1 := Scalar.cmpi .slt v755 c0_i32_482
  let c0_i32_483 : BitVec 32 := 0#32
  let v758 : BitVec 1 := Scalar.cmpi .slt v754 c0_i32_483
  let v759 : BitVec 1 := Scalar.xori v757 v758
  let c0_i32_481 : BitVec 32 := 0#32
  let v756 : BitVec 1 := Scalar.cmpi .ne v755 c0_i32_481
  let v760 : BitVec 1 := Scalar.andi v759 v756
  let v761 : BitVec 32 := Scalar.addi v755 v754
  let v762 : BitVec 32 := Scalar.select v760 v761 v755
  let c2_i32_484 : BitVec 32 := 2#32
  let v763 : BitVec 1 := Scalar.cmpi .sge v762 c2_i32_484
  let v764 : BitVec 32 := Scalar.extui v763
  let c1_i32_488 : BitVec 32 := 1#32
  let v770 : BitVec 32 := Scalar.xori v764 c1_i32_488
  let c3_i32_491 : BitVec 32 := 3#32
  let v773 : BitVec 32 := Scalar.muli v770 c3_i32_491
  let c1_i32_485 : BitVec 32 := 1#32
  let v765 : BitVec 1 := Scalar.cmpi .eq v762 c1_i32_485
  let c2_i32_486 : BitVec 32 := 2#32
  let v766 : BitVec 1 := Scalar.cmpi .eq v762 c2_i32_486
  let v767 : BitVec 1 := Scalar.ori v765 v766
  let v768 : BitVec 32 := Scalar.extui v767
  let c1_i32_487 : BitVec 32 := 1#32
  let v769 : BitVec 32 := Scalar.xori v768 c1_i32_487
  let v774 : BitVec 32 := Scalar.addi v773 v769
  let c2_i32_492 : BitVec 32 := 2#32
  let v775 : BitVec 32 := Scalar.muli c2_i32_492 v769
  let v776 : BitVec 32 := Scalar.muli v775 v770
  let v777 : BitVec 32 := Scalar.subi v774 v776
  let v778 : BitVec 32 := Scalar.addi v772 v777
  let c1_i32_500 : BitVec 32 := 1#32
  let v781 : BitVec 32 := Scalar.muli v778 c1_i32_500
  let v782 : BitVec 32 := Scalar.addi c0_i32_501 v781
  v782.toNat
def k0_dev22 (d0 : Dev nD) : Nat :=
  let c0_i32_534 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_506 : BitVec 32 := 0#32
  let v791 : BitVec 1 := Scalar.cmpi .sgt v2 c0_i32_506
  let v792 : BitVec 32 := Scalar.extui v791
  let c0_i32_507 : BitVec 32 := 0#32
  let v793 : BitVec 1 := Scalar.cmpi .slt v2 c0_i32_507
  let v794 : BitVec 32 := Scalar.extui v793
  let v795 : BitVec 32 := Scalar.subi v792 v794
  let c4_i32_505 : BitVec 32 := 4#32
  let c0_i32_508 : BitVec 32 := 0#32
  let v796 : BitVec 1 := Scalar.cmpi .sgt c4_i32_505 c0_i32_508
  let v797 : BitVec 32 := Scalar.extui v796
  let c0_i32_509 : BitVec 32 := 0#32
  let v798 : BitVec 1 := Scalar.cmpi .slt c4_i32_505 c0_i32_509
  let v799 : BitVec 32 := Scalar.extui v798
  let v800 : BitVec 32 := Scalar.subi v797 v799
  let v801 : BitVec 1 := Scalar.cmpi .ne v795 v800
  let v802 : BitVec 32 := Scalar.remsi v2 c4_i32_505
  let c0_i32_510 : BitVec 32 := 0#32
  let v803 : BitVec 1 := Scalar.cmpi .ne v802 c0_i32_510
  let v804 : BitVec 1 := Scalar.andi v801 v803
  let v790 : BitVec 32 := Scalar.divsi v2 c4_i32_505
  let c1_i32_511 : BitVec 32 := 1#32
  let v805 : BitVec 32 := Scalar.subi v790 c1_i32_511
  let v806 : BitVec 32 := Scalar.select v804 v805 v790
  let c0_i32_523 : BitVec 32 := 0#32
  let v825 : BitVec 32 := Scalar.xori v806 c0_i32_523
  let c4_i32_524 : BitVec 32 := 4#32
  let v826 : BitVec 32 := Scalar.muli v825 c4_i32_524
  let c4_i32_512 : BitVec 32 := 4#32
  let c0_i32_513 : BitVec 32 := 0#32
  let v807 : BitVec 1 := Scalar.cmpi .eq c4_i32_512 c0_i32_513
  let c1_i32_514 : BitVec 32 := 1#32
  let v808 : BitVec 32 := Scalar.select v807 c1_i32_514 c4_i32_512
  let v809 : BitVec 32 := Scalar.remsi v2 v808
  let c0_i32_516 : BitVec 32 := 0#32
  let v811 : BitVec 1 := Scalar.cmpi .slt v809 c0_i32_516
  let c0_i32_517 : BitVec 32 := 0#32
  let v812 : BitVec 1 := Scalar.cmpi .slt v808 c0_i32_517
  let v813 : BitVec 1 := Scalar.xori v811 v812
  let c0_i32_515 : BitVec 32 := 0#32
  let v810 : BitVec 1 := Scalar.cmpi .ne v809 c0_i32_515
  let v814 : BitVec 1 := Scalar.andi v813 v810
  let v815 : BitVec 32 := Scalar.addi v809 v808
  let v816 : BitVec 32 := Scalar.select v814 v815 v809
  let c2_i32_518 : BitVec 32 := 2#32
  let v817 : BitVec 1 := Scalar.cmpi .sge v816 c2_i32_518
  let v818 : BitVec 32 := Scalar.extui v817
  let c0_i32_522 : BitVec 32 := 0#32
  let v824 : BitVec 32 := Scalar.xori v818 c0_i32_522
  let c3_i32_525 : BitVec 32 := 3#32
  let v827 : BitVec 32 := Scalar.muli v824 c3_i32_525
  let c1_i32_519 : BitVec 32 := 1#32
  let v819 : BitVec 1 := Scalar.cmpi .eq v816 c1_i32_519
  let c2_i32_520 : BitVec 32 := 2#32
  let v820 : BitVec 1 := Scalar.cmpi .eq v816 c2_i32_520
  let v821 : BitVec 1 := Scalar.ori v819 v820
  let v822 : BitVec 32 := Scalar.extui v821
  let c1_i32_521 : BitVec 32 := 1#32
  let v823 : BitVec 32 := Scalar.xori v822 c1_i32_521
  let v828 : BitVec 32 := Scalar.addi v827 v823
  let c2_i32_526 : BitVec 32 := 2#32
  let v829 : BitVec 32 := Scalar.muli c2_i32_526 v823
  let v830 : BitVec 32 := Scalar.muli v829 v824
  let v831 : BitVec 32 := Scalar.subi v828 v830
  let v832 : BitVec 32 := Scalar.addi v826 v831
  let c1_i32_533 : BitVec 32 := 1#32
  let v835 : BitVec 32 := Scalar.muli v832 c1_i32_533
  let v836 : BitVec 32 := Scalar.addi c0_i32_534 v835
  v836.toNat
def k0_dev23 (d0 : Dev nD) : Nat :=
  let c0_i32_568 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_539 : BitVec 32 := 0#32
  let v845 : BitVec 1 := Scalar.cmpi .sgt v2 c0_i32_539
  let v846 : BitVec 32 := Scalar.extui v845
  let c0_i32_540 : BitVec 32 := 0#32
  let v847 : BitVec 1 := Scalar.cmpi .slt v2 c0_i32_540
  let v848 : BitVec 32 := Scalar.extui v847
  let v849 : BitVec 32 := Scalar.subi v846 v848
  let c4_i32_538 : BitVec 32 := 4#32
  let c0_i32_541 : BitVec 32 := 0#32
  let v850 : BitVec 1 := Scalar.cmpi .sgt c4_i32_538 c0_i32_541
  let v851 : BitVec 32 := Scalar.extui v850
  let c0_i32_542 : BitVec 32 := 0#32
  let v852 : BitVec 1 := Scalar.cmpi .slt c4_i32_538 c0_i32_542
  let v853 : BitVec 32 := Scalar.extui v852
  let v854 : BitVec 32 := Scalar.subi v851 v853
  let v855 : BitVec 1 := Scalar.cmpi .ne v849 v854
  let v856 : BitVec 32 := Scalar.remsi v2 c4_i32_538
  let c0_i32_543 : BitVec 32 := 0#32
  let v857 : BitVec 1 := Scalar.cmpi .ne v856 c0_i32_543
  let v858 : BitVec 1 := Scalar.andi v855 v857
  let v844 : BitVec 32 := Scalar.divsi v2 c4_i32_538
  let c1_i32_544 : BitVec 32 := 1#32
  let v859 : BitVec 32 := Scalar.subi v844 c1_i32_544
  let v860 : BitVec 32 := Scalar.select v858 v859 v844
  let c0_i32_556 : BitVec 32 := 0#32
  let v879 : BitVec 32 := Scalar.xori v860 c0_i32_556
  let c4_i32_557 : BitVec 32 := 4#32
  let v880 : BitVec 32 := Scalar.muli v879 c4_i32_557
  let c4_i32_545 : BitVec 32 := 4#32
  let c0_i32_546 : BitVec 32 := 0#32
  let v861 : BitVec 1 := Scalar.cmpi .eq c4_i32_545 c0_i32_546
  let c1_i32_547 : BitVec 32 := 1#32
  let v862 : BitVec 32 := Scalar.select v861 c1_i32_547 c4_i32_545
  let v863 : BitVec 32 := Scalar.remsi v2 v862
  let c0_i32_549 : BitVec 32 := 0#32
  let v865 : BitVec 1 := Scalar.cmpi .slt v863 c0_i32_549
  let c0_i32_550 : BitVec 32 := 0#32
  let v866 : BitVec 1 := Scalar.cmpi .slt v862 c0_i32_550
  let v867 : BitVec 1 := Scalar.xori v865 v866
  let c0_i32_548 : BitVec 32 := 0#32
  let v864 : BitVec 1 := Scalar.cmpi .ne v863 c0_i32_548
  let v868 : BitVec 1 := Scalar.andi v867 v864
  let v869 : BitVec 32 := Scalar.addi v863 v862
  let v870 : BitVec 32 := Scalar.select v868 v869 v863
  let c2_i32_551 : BitVec 32 := 2#32
  let v871 : BitVec 1 := Scalar.cmpi .sge v870 c2_i32_551
  let v872 : BitVec 32 := Scalar.extui v871
  let c1_i32_555 : BitVec 32 := 1#32
  let v878 : BitVec 32 := Scalar.xori v872 c1_i32_555
  let c3_i32_558 : BitVec 32 := 3#32
  let v881 : BitVec 32 := Scalar.muli v878 c3_i32_558
  let c1_i32_552 : BitVec 32 := 1#32
  let v873 : BitVec 1 := Scalar.cmpi .eq v870 c1_i32_552
  let c2_i32_553 : BitVec 32 := 2#32
  let v874 : BitVec 1 := Scalar.cmpi .eq v870 c2_i32_553
  let v875 : BitVec 1 := Scalar.ori v873 v874
  let v876 : BitVec 32 := Scalar.extui v875
  let c0_i32_554 : BitVec 32 := 0#32
  let v877 : BitVec 32 := Scalar.xori v876 c0_i32_554
  let v882 : BitVec 32 := Scalar.addi v881 v877
  let c2_i32_559 : BitVec 32 := 2#32
  let v883 : BitVec 32 := Scalar.muli c2_i32_559 v877
  let v884 : BitVec 32 := Scalar.muli v883 v878
  let v885 : BitVec 32 := Scalar.subi v882 v884
  let v886 : BitVec 32 := Scalar.addi v880 v885
  let c1_i32_567 : BitVec 32 := 1#32
  let v889 : BitVec 32 := Scalar.muli v886 c1_i32_567
  let v890 : BitVec 32 := Scalar.addi c0_i32_568 v889
  v890.toNat
def k0_dev24 (d0 : Dev nD) : Nat :=
  let c0_i32_602 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_573 : BitVec 32 := 0#32
  let v899 : BitVec 1 := Scalar.cmpi .sgt v2 c0_i32_573
  let v900 : BitVec 32 := Scalar.extui v899
  let c0_i32_574 : BitVec 32 := 0#32
  let v901 : BitVec 1 := Scalar.cmpi .slt v2 c0_i32_574
  let v902 : BitVec 32 := Scalar.extui v901
  let v903 : BitVec 32 := Scalar.subi v900 v902
  let c4_i32_572 : BitVec 32 := 4#32
  let c0_i32_575 : BitVec 32 := 0#32
  let v904 : BitVec 1 := Scalar.cmpi .sgt c4_i32_572 c0_i32_575
  let v905 : BitVec 32 := Scalar.extui v904
  let c0_i32_576 : BitVec 32 := 0#32
  let v906 : BitVec 1 := Scalar.cmpi .slt c4_i32_572 c0_i32_576
  let v907 : BitVec 32 := Scalar.extui v906
  let v908 : BitVec 32 := Scalar.subi v905 v907
  let v909 : BitVec 1 := Scalar.cmpi .ne v903 v908
  let v910 : BitVec 32 := Scalar.remsi v2 c4_i32_572
  let c0_i32_577 : BitVec 32 := 0#32
  let v911 : BitVec 1 := Scalar.cmpi .ne v910 c0_i32_577
  let v912 : BitVec 1 := Scalar.andi v909 v911
  let v898 : BitVec 32 := Scalar.divsi v2 c4_i32_572
  let c1_i32_578 : BitVec 32 := 1#32
  let v913 : BitVec 32 := Scalar.subi v898 c1_i32_578
  let v914 : BitVec 32 := Scalar.select v912 v913 v898
  let c1_i32_590 : BitVec 32 := 1#32
  let v933 : BitVec 32 := Scalar.xori v914 c1_i32_590
  let c4_i32_591 : BitVec 32 := 4#32
  let v934 : BitVec 32 := Scalar.muli v933 c4_i32_591
  let c4_i32_579 : BitVec 32 := 4#32
  let c0_i32_580 : BitVec 32 := 0#32
  let v915 : BitVec 1 := Scalar.cmpi .eq c4_i32_579 c0_i32_580
  let c1_i32_581 : BitVec 32 := 1#32
  let v916 : BitVec 32 := Scalar.select v915 c1_i32_581 c4_i32_579
  let v917 : BitVec 32 := Scalar.remsi v2 v916
  let c0_i32_583 : BitVec 32 := 0#32
  let v919 : BitVec 1 := Scalar.cmpi .slt v917 c0_i32_583
  let c0_i32_584 : BitVec 32 := 0#32
  let v920 : BitVec 1 := Scalar.cmpi .slt v916 c0_i32_584
  let v921 : BitVec 1 := Scalar.xori v919 v920
  let c0_i32_582 : BitVec 32 := 0#32
  let v918 : BitVec 1 := Scalar.cmpi .ne v917 c0_i32_582
  let v922 : BitVec 1 := Scalar.andi v921 v918
  let v923 : BitVec 32 := Scalar.addi v917 v916
  let v924 : BitVec 32 := Scalar.select v922 v923 v917
  let c2_i32_585 : BitVec 32 := 2#32
  let v925 : BitVec 1 := Scalar.cmpi .sge v924 c2_i32_585
  let v926 : BitVec 32 := Scalar.extui v925
  let c0_i32_589 : BitVec 32 := 0#32
  let v932 : BitVec 32 := Scalar.xori v926 c0_i32_589
  let c3_i32_592 : BitVec 32 := 3#32
  let v935 : BitVec 32 := Scalar.muli v932 c3_i32_592
  let c1_i32_586 : BitVec 32 := 1#32
  let v927 : BitVec 1 := Scalar.cmpi .eq v924 c1_i32_586
  let c2_i32_587 : BitVec 32 := 2#32
  let v928 : BitVec 1 := Scalar.cmpi .eq v924 c2_i32_587
  let v929 : BitVec 1 := Scalar.ori v927 v928
  let v930 : BitVec 32 := Scalar.extui v929
  let c0_i32_588 : BitVec 32 := 0#32
  let v931 : BitVec 32 := Scalar.xori v930 c0_i32_588
  let v936 : BitVec 32 := Scalar.addi v935 v931
  let c2_i32_593 : BitVec 32 := 2#32
  let v937 : BitVec 32 := Scalar.muli c2_i32_593 v931
  let v938 : BitVec 32 := Scalar.muli v937 v932
  let v939 : BitVec 32 := Scalar.subi v936 v938
  let v940 : BitVec 32 := Scalar.addi v934 v939
  let c1_i32_601 : BitVec 32 := 1#32
  let v943 : BitVec 32 := Scalar.muli v940 c1_i32_601
  let v944 : BitVec 32 := Scalar.addi c0_i32_602 v943
  v944.toNat
def k0_dev25 (d0 : Dev nD) : Nat :=
  let c0_i32_636 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_607 : BitVec 32 := 0#32
  let v953 : BitVec 1 := Scalar.cmpi .sgt v2 c0_i32_607
  let v954 : BitVec 32 := Scalar.extui v953
  let c0_i32_608 : BitVec 32 := 0#32
  let v955 : BitVec 1 := Scalar.cmpi .slt v2 c0_i32_608
  let v956 : BitVec 32 := Scalar.extui v955
  let v957 : BitVec 32 := Scalar.subi v954 v956
  let c4_i32_606 : BitVec 32 := 4#32
  let c0_i32_609 : BitVec 32 := 0#32
  let v958 : BitVec 1 := Scalar.cmpi .sgt c4_i32_606 c0_i32_609
  let v959 : BitVec 32 := Scalar.extui v958
  let c0_i32_610 : BitVec 32 := 0#32
  let v960 : BitVec 1 := Scalar.cmpi .slt c4_i32_606 c0_i32_610
  let v961 : BitVec 32 := Scalar.extui v960
  let v962 : BitVec 32 := Scalar.subi v959 v961
  let v963 : BitVec 1 := Scalar.cmpi .ne v957 v962
  let v964 : BitVec 32 := Scalar.remsi v2 c4_i32_606
  let c0_i32_611 : BitVec 32 := 0#32
  let v965 : BitVec 1 := Scalar.cmpi .ne v964 c0_i32_611
  let v966 : BitVec 1 := Scalar.andi v963 v965
  let v952 : BitVec 32 := Scalar.divsi v2 c4_i32_606
  let c1_i32_612 : BitVec 32 := 1#32
  let v967 : BitVec 32 := Scalar.subi v952 c1_i32_612
  let v968 : BitVec 32 := Scalar.select v966 v967 v952
  let c0_i32_624 : BitVec 32 := 0#32
  let v987 : BitVec 32 := Scalar.xori v968 c0_i32_624
  let c4_i32_625 : BitVec 32 := 4#32
  let v988 : BitVec 32 := Scalar.muli v987 c4_i32_625
  let c4_i32_613 : BitVec 32 := 4#32
  let c0_i32_614 : BitVec 32 := 0#32
  let v969 : BitVec 1 := Scalar.cmpi .eq c4_i32_613 c0_i32_614
  let c1_i32_615 : BitVec 32 := 1#32
  let v970 : BitVec 32 := Scalar.select v969 c1_i32_615 c4_i32_613
  let v971 : BitVec 32 := Scalar.remsi v2 v970
  let c0_i32_617 : BitVec 32 := 0#32
  let v973 : BitVec 1 := Scalar.cmpi .slt v971 c0_i32_617
  let c0_i32_618 : BitVec 32 := 0#32
  let v974 : BitVec 1 := Scalar.cmpi .slt v970 c0_i32_618
  let v975 : BitVec 1 := Scalar.xori v973 v974
  let c0_i32_616 : BitVec 32 := 0#32
  let v972 : BitVec 1 := Scalar.cmpi .ne v971 c0_i32_616
  let v976 : BitVec 1 := Scalar.andi v975 v972
  let v977 : BitVec 32 := Scalar.addi v971 v970
  let v978 : BitVec 32 := Scalar.select v976 v977 v971
  let c2_i32_619 : BitVec 32 := 2#32
  let v979 : BitVec 1 := Scalar.cmpi .sge v978 c2_i32_619
  let v980 : BitVec 32 := Scalar.extui v979
  let c1_i32_623 : BitVec 32 := 1#32
  let v986 : BitVec 32 := Scalar.xori v980 c1_i32_623
  let c3_i32_626 : BitVec 32 := 3#32
  let v989 : BitVec 32 := Scalar.muli v986 c3_i32_626
  let c1_i32_620 : BitVec 32 := 1#32
  let v981 : BitVec 1 := Scalar.cmpi .eq v978 c1_i32_620
  let c2_i32_621 : BitVec 32 := 2#32
  let v982 : BitVec 1 := Scalar.cmpi .eq v978 c2_i32_621
  let v983 : BitVec 1 := Scalar.ori v981 v982
  let v984 : BitVec 32 := Scalar.extui v983
  let c1_i32_622 : BitVec 32 := 1#32
  let v985 : BitVec 32 := Scalar.xori v984 c1_i32_622
  let v990 : BitVec 32 := Scalar.addi v989 v985
  let c2_i32_627 : BitVec 32 := 2#32
  let v991 : BitVec 32 := Scalar.muli c2_i32_627 v985
  let v992 : BitVec 32 := Scalar.muli v991 v986
  let v993 : BitVec 32 := Scalar.subi v990 v992
  let v994 : BitVec 32 := Scalar.addi v988 v993
  let c1_i32_635 : BitVec 32 := 1#32
  let v997 : BitVec 32 := Scalar.muli v994 c1_i32_635
  let v998 : BitVec 32 := Scalar.addi c0_i32_636 v997
  v998.toNat
def k0_dev26 (d0 : Dev nD) : Nat :=
  let c0_i32_670 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_641 : BitVec 32 := 0#32
  let v1007 : BitVec 1 := Scalar.cmpi .sgt v2 c0_i32_641
  let v1008 : BitVec 32 := Scalar.extui v1007
  let c0_i32_642 : BitVec 32 := 0#32
  let v1009 : BitVec 1 := Scalar.cmpi .slt v2 c0_i32_642
  let v1010 : BitVec 32 := Scalar.extui v1009
  let v1011 : BitVec 32 := Scalar.subi v1008 v1010
  let c4_i32_640 : BitVec 32 := 4#32
  let c0_i32_643 : BitVec 32 := 0#32
  let v1012 : BitVec 1 := Scalar.cmpi .sgt c4_i32_640 c0_i32_643
  let v1013 : BitVec 32 := Scalar.extui v1012
  let c0_i32_644 : BitVec 32 := 0#32
  let v1014 : BitVec 1 := Scalar.cmpi .slt c4_i32_640 c0_i32_644
  let v1015 : BitVec 32 := Scalar.extui v1014
  let v1016 : BitVec 32 := Scalar.subi v1013 v1015
  let v1017 : BitVec 1 := Scalar.cmpi .ne v1011 v1016
  let v1018 : BitVec 32 := Scalar.remsi v2 c4_i32_640
  let c0_i32_645 : BitVec 32 := 0#32
  let v1019 : BitVec 1 := Scalar.cmpi .ne v1018 c0_i32_645
  let v1020 : BitVec 1 := Scalar.andi v1017 v1019
  let v1006 : BitVec 32 := Scalar.divsi v2 c4_i32_640
  let c1_i32_646 : BitVec 32 := 1#32
  let v1021 : BitVec 32 := Scalar.subi v1006 c1_i32_646
  let v1022 : BitVec 32 := Scalar.select v1020 v1021 v1006
  let c1_i32_658 : BitVec 32 := 1#32
  let v1041 : BitVec 32 := Scalar.xori v1022 c1_i32_658
  let c4_i32_659 : BitVec 32 := 4#32
  let v1042 : BitVec 32 := Scalar.muli v1041 c4_i32_659
  let c4_i32_647 : BitVec 32 := 4#32
  let c0_i32_648 : BitVec 32 := 0#32
  let v1023 : BitVec 1 := Scalar.cmpi .eq c4_i32_647 c0_i32_648
  let c1_i32_649 : BitVec 32 := 1#32
  let v1024 : BitVec 32 := Scalar.select v1023 c1_i32_649 c4_i32_647
  let v1025 : BitVec 32 := Scalar.remsi v2 v1024
  let c0_i32_651 : BitVec 32 := 0#32
  let v1027 : BitVec 1 := Scalar.cmpi .slt v1025 c0_i32_651
  let c0_i32_652 : BitVec 32 := 0#32
  let v1028 : BitVec 1 := Scalar.cmpi .slt v1024 c0_i32_652
  let v1029 : BitVec 1 := Scalar.xori v1027 v1028
  let c0_i32_650 : BitVec 32 := 0#32
  let v1026 : BitVec 1 := Scalar.cmpi .ne v1025 c0_i32_650
  let v1030 : BitVec 1 := Scalar.andi v1029 v1026
  let v1031 : BitVec 32 := Scalar.addi v1025 v1024
  let v1032 : BitVec 32 := Scalar.select v1030 v1031 v1025
  let c2_i32_653 : BitVec 32 := 2#32
  let v1033 : BitVec 1 := Scalar.cmpi .sge v1032 c2_i32_653
  let v1034 : BitVec 32 := Scalar.extui v1033
  let c0_i32_657 : BitVec 32 := 0#32
  let v1040 : BitVec 32 := Scalar.xori v1034 c0_i32_657
  let c3_i32_660 : BitVec 32 := 3#32
  let v1043 : BitVec 32 := Scalar.muli v1040 c3_i32_660
  let c1_i32_654 : BitVec 32 := 1#32
  let v1035 : BitVec 1 := Scalar.cmpi .eq v1032 c1_i32_654
  let c2_i32_655 : BitVec 32 := 2#32
  let v1036 : BitVec 1 := Scalar.cmpi .eq v1032 c2_i32_655
  let v1037 : BitVec 1 := Scalar.ori v1035 v1036
  let v1038 : BitVec 32 := Scalar.extui v1037
  let c1_i32_656 : BitVec 32 := 1#32
  let v1039 : BitVec 32 := Scalar.xori v1038 c1_i32_656
  let v1044 : BitVec 32 := Scalar.addi v1043 v1039
  let c2_i32_661 : BitVec 32 := 2#32
  let v1045 : BitVec 32 := Scalar.muli c2_i32_661 v1039
  let v1046 : BitVec 32 := Scalar.muli v1045 v1040
  let v1047 : BitVec 32 := Scalar.subi v1044 v1046
  let v1048 : BitVec 32 := Scalar.addi v1042 v1047
  let c1_i32_669 : BitVec 32 := 1#32
  let v1051 : BitVec 32 := Scalar.muli v1048 c1_i32_669
  let v1052 : BitVec 32 := Scalar.addi c0_i32_670 v1051
  v1052.toNat
def k0_dev27 (d0 : Dev nD) : Nat :=
  let c0_i32_704 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_675 : BitVec 32 := 0#32
  let v1061 : BitVec 1 := Scalar.cmpi .sgt v2 c0_i32_675
  let v1062 : BitVec 32 := Scalar.extui v1061
  let c0_i32_676 : BitVec 32 := 0#32
  let v1063 : BitVec 1 := Scalar.cmpi .slt v2 c0_i32_676
  let v1064 : BitVec 32 := Scalar.extui v1063
  let v1065 : BitVec 32 := Scalar.subi v1062 v1064
  let c4_i32_674 : BitVec 32 := 4#32
  let c0_i32_677 : BitVec 32 := 0#32
  let v1066 : BitVec 1 := Scalar.cmpi .sgt c4_i32_674 c0_i32_677
  let v1067 : BitVec 32 := Scalar.extui v1066
  let c0_i32_678 : BitVec 32 := 0#32
  let v1068 : BitVec 1 := Scalar.cmpi .slt c4_i32_674 c0_i32_678
  let v1069 : BitVec 32 := Scalar.extui v1068
  let v1070 : BitVec 32 := Scalar.subi v1067 v1069
  let v1071 : BitVec 1 := Scalar.cmpi .ne v1065 v1070
  let v1072 : BitVec 32 := Scalar.remsi v2 c4_i32_674
  let c0_i32_679 : BitVec 32 := 0#32
  let v1073 : BitVec 1 := Scalar.cmpi .ne v1072 c0_i32_679
  let v1074 : BitVec 1 := Scalar.andi v1071 v1073
  let v1060 : BitVec 32 := Scalar.divsi v2 c4_i32_674
  let c1_i32_680 : BitVec 32 := 1#32
  let v1075 : BitVec 32 := Scalar.subi v1060 c1_i32_680
  let v1076 : BitVec 32 := Scalar.select v1074 v1075 v1060
  let c1_i32_692 : BitVec 32 := 1#32
  let v1095 : BitVec 32 := Scalar.xori v1076 c1_i32_692
  let c4_i32_693 : BitVec 32 := 4#32
  let v1096 : BitVec 32 := Scalar.muli v1095 c4_i32_693
  let c4_i32_681 : BitVec 32 := 4#32
  let c0_i32_682 : BitVec 32 := 0#32
  let v1077 : BitVec 1 := Scalar.cmpi .eq c4_i32_681 c0_i32_682
  let c1_i32_683 : BitVec 32 := 1#32
  let v1078 : BitVec 32 := Scalar.select v1077 c1_i32_683 c4_i32_681
  let v1079 : BitVec 32 := Scalar.remsi v2 v1078
  let c0_i32_685 : BitVec 32 := 0#32
  let v1081 : BitVec 1 := Scalar.cmpi .slt v1079 c0_i32_685
  let c0_i32_686 : BitVec 32 := 0#32
  let v1082 : BitVec 1 := Scalar.cmpi .slt v1078 c0_i32_686
  let v1083 : BitVec 1 := Scalar.xori v1081 v1082
  let c0_i32_684 : BitVec 32 := 0#32
  let v1080 : BitVec 1 := Scalar.cmpi .ne v1079 c0_i32_684
  let v1084 : BitVec 1 := Scalar.andi v1083 v1080
  let v1085 : BitVec 32 := Scalar.addi v1079 v1078
  let v1086 : BitVec 32 := Scalar.select v1084 v1085 v1079
  let c2_i32_687 : BitVec 32 := 2#32
  let v1087 : BitVec 1 := Scalar.cmpi .sge v1086 c2_i32_687
  let v1088 : BitVec 32 := Scalar.extui v1087
  let c1_i32_691 : BitVec 32 := 1#32
  let v1094 : BitVec 32 := Scalar.xori v1088 c1_i32_691
  let c3_i32_694 : BitVec 32 := 3#32
  let v1097 : BitVec 32 := Scalar.muli v1094 c3_i32_694
  let c1_i32_688 : BitVec 32 := 1#32
  let v1089 : BitVec 1 := Scalar.cmpi .eq v1086 c1_i32_688
  let c2_i32_689 : BitVec 32 := 2#32
  let v1090 : BitVec 1 := Scalar.cmpi .eq v1086 c2_i32_689
  let v1091 : BitVec 1 := Scalar.ori v1089 v1090
  let v1092 : BitVec 32 := Scalar.extui v1091
  let c0_i32_690 : BitVec 32 := 0#32
  let v1093 : BitVec 32 := Scalar.xori v1092 c0_i32_690
  let v1098 : BitVec 32 := Scalar.addi v1097 v1093
  let c2_i32_695 : BitVec 32 := 2#32
  let v1099 : BitVec 32 := Scalar.muli c2_i32_695 v1093
  let v1100 : BitVec 32 := Scalar.muli v1099 v1094
  let v1101 : BitVec 32 := Scalar.subi v1098 v1100
  let v1102 : BitVec 32 := Scalar.addi v1096 v1101
  let c1_i32_703 : BitVec 32 := 1#32
  let v1105 : BitVec 32 := Scalar.muli v1102 c1_i32_703
  let v1106 : BitVec 32 := Scalar.addi c0_i32_704 v1105
  v1106.toNat
def k0_dev28 (d0 : Dev nD) : Nat :=
  let c0_i32_738 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_709 : BitVec 32 := 0#32
  let v1115 : BitVec 1 := Scalar.cmpi .sgt v2 c0_i32_709
  let v1116 : BitVec 32 := Scalar.extui v1115
  let c0_i32_710 : BitVec 32 := 0#32
  let v1117 : BitVec 1 := Scalar.cmpi .slt v2 c0_i32_710
  let v1118 : BitVec 32 := Scalar.extui v1117
  let v1119 : BitVec 32 := Scalar.subi v1116 v1118
  let c4_i32_708 : BitVec 32 := 4#32
  let c0_i32_711 : BitVec 32 := 0#32
  let v1120 : BitVec 1 := Scalar.cmpi .sgt c4_i32_708 c0_i32_711
  let v1121 : BitVec 32 := Scalar.extui v1120
  let c0_i32_712 : BitVec 32 := 0#32
  let v1122 : BitVec 1 := Scalar.cmpi .slt c4_i32_708 c0_i32_712
  let v1123 : BitVec 32 := Scalar.extui v1122
  let v1124 : BitVec 32 := Scalar.subi v1121 v1123
  let v1125 : BitVec 1 := Scalar.cmpi .ne v1119 v1124
  let v1126 : BitVec 32 := Scalar.remsi v2 c4_i32_708
  let c0_i32_713 : BitVec 32 := 0#32
  let v1127 : BitVec 1 := Scalar.cmpi .ne v1126 c0_i32_713
  let v1128 : BitVec 1 := Scalar.andi v1125 v1127
  let v1114 : BitVec 32 := Scalar.divsi v2 c4_i32_708
  let c1_i32_714 : BitVec 32 := 1#32
  let v1129 : BitVec 32 := Scalar.subi v1114 c1_i32_714
  let v1130 : BitVec 32 := Scalar.select v1128 v1129 v1114
  let c1_i32_726 : BitVec 32 := 1#32
  let v1149 : BitVec 32 := Scalar.xori v1130 c1_i32_726
  let c4_i32_727 : BitVec 32 := 4#32
  let v1150 : BitVec 32 := Scalar.muli v1149 c4_i32_727
  let c4_i32_715 : BitVec 32 := 4#32
  let c0_i32_716 : BitVec 32 := 0#32
  let v1131 : BitVec 1 := Scalar.cmpi .eq c4_i32_715 c0_i32_716
  let c1_i32_717 : BitVec 32 := 1#32
  let v1132 : BitVec 32 := Scalar.select v1131 c1_i32_717 c4_i32_715
  let v1133 : BitVec 32 := Scalar.remsi v2 v1132
  let c0_i32_719 : BitVec 32 := 0#32
  let v1135 : BitVec 1 := Scalar.cmpi .slt v1133 c0_i32_719
  let c0_i32_720 : BitVec 32 := 0#32
  let v1136 : BitVec 1 := Scalar.cmpi .slt v1132 c0_i32_720
  let v1137 : BitVec 1 := Scalar.xori v1135 v1136
  let c0_i32_718 : BitVec 32 := 0#32
  let v1134 : BitVec 1 := Scalar.cmpi .ne v1133 c0_i32_718
  let v1138 : BitVec 1 := Scalar.andi v1137 v1134
  let v1139 : BitVec 32 := Scalar.addi v1133 v1132
  let v1140 : BitVec 32 := Scalar.select v1138 v1139 v1133
  let c2_i32_721 : BitVec 32 := 2#32
  let v1141 : BitVec 1 := Scalar.cmpi .sge v1140 c2_i32_721
  let v1142 : BitVec 32 := Scalar.extui v1141
  let c1_i32_725 : BitVec 32 := 1#32
  let v1148 : BitVec 32 := Scalar.xori v1142 c1_i32_725
  let c3_i32_728 : BitVec 32 := 3#32
  let v1151 : BitVec 32 := Scalar.muli v1148 c3_i32_728
  let c1_i32_722 : BitVec 32 := 1#32
  let v1143 : BitVec 1 := Scalar.cmpi .eq v1140 c1_i32_722
  let c2_i32_723 : BitVec 32 := 2#32
  let v1144 : BitVec 1 := Scalar.cmpi .eq v1140 c2_i32_723
  let v1145 : BitVec 1 := Scalar.ori v1143 v1144
  let v1146 : BitVec 32 := Scalar.extui v1145
  let c1_i32_724 : BitVec 32 := 1#32
  let v1147 : BitVec 32 := Scalar.xori v1146 c1_i32_724
  let v1152 : BitVec 32 := Scalar.addi v1151 v1147
  let c2_i32_729 : BitVec 32 := 2#32
  let v1153 : BitVec 32 := Scalar.muli c2_i32_729 v1147
  let v1154 : BitVec 32 := Scalar.muli v1153 v1148
  let v1155 : BitVec 32 := Scalar.subi v1152 v1154
  let v1156 : BitVec 32 := Scalar.addi v1150 v1155
  let c1_i32_737 : BitVec 32 := 1#32
  let v1159 : BitVec 32 := Scalar.muli v1156 c1_i32_737
  let v1160 : BitVec 32 := Scalar.addi c0_i32_738 v1159
  v1160.toNat
def k0_dev29 (d0 : Dev nD) : Nat :=
  let c0_i32_771 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_743 : BitVec 32 := 0#32
  let v1169 : BitVec 1 := Scalar.cmpi .sgt v2 c0_i32_743
  let v1170 : BitVec 32 := Scalar.extui v1169
  let c0_i32_744 : BitVec 32 := 0#32
  let v1171 : BitVec 1 := Scalar.cmpi .slt v2 c0_i32_744
  let v1172 : BitVec 32 := Scalar.extui v1171
  let v1173 : BitVec 32 := Scalar.subi v1170 v1172
  let c4_i32_742 : BitVec 32 := 4#32
  let c0_i32_745 : BitVec 32 := 0#32
  let v1174 : BitVec 1 := Scalar.cmpi .sgt c4_i32_742 c0_i32_745
  let v1175 : BitVec 32 := Scalar.extui v1174
  let c0_i32_746 : BitVec 32 := 0#32
  let v1176 : BitVec 1 := Scalar.cmpi .slt c4_i32_742 c0_i32_746
  let v1177 : BitVec 32 := Scalar.extui v1176
  let v1178 : BitVec 32 := Scalar.subi v1175 v1177
  let v1179 : BitVec 1 := Scalar.cmpi .ne v1173 v1178
  let v1180 : BitVec 32 := Scalar.remsi v2 c4_i32_742
  let c0_i32_747 : BitVec 32 := 0#32
  let v1181 : BitVec 1 := Scalar.cmpi .ne v1180 c0_i32_747
  let v1182 : BitVec 1 := Scalar.andi v1179 v1181
  let v1168 : BitVec 32 := Scalar.divsi v2 c4_i32_742
  let c1_i32_748 : BitVec 32 := 1#32
  let v1183 : BitVec 32 := Scalar.subi v1168 c1_i32_748
  let v1184 : BitVec 32 := Scalar.select v1182 v1183 v1168
  let c0_i32_760 : BitVec 32 := 0#32
  let v1203 : BitVec 32 := Scalar.xori v1184 c0_i32_760
  let c4_i32_761 : BitVec 32 := 4#32
  let v1204 : BitVec 32 := Scalar.muli v1203 c4_i32_761
  let c4_i32_749 : BitVec 32 := 4#32
  let c0_i32_750 : BitVec 32 := 0#32
  let v1185 : BitVec 1 := Scalar.cmpi .eq c4_i32_749 c0_i32_750
  let c1_i32_751 : BitVec 32 := 1#32
  let v1186 : BitVec 32 := Scalar.select v1185 c1_i32_751 c4_i32_749
  let v1187 : BitVec 32 := Scalar.remsi v2 v1186
  let c0_i32_753 : BitVec 32 := 0#32
  let v1189 : BitVec 1 := Scalar.cmpi .slt v1187 c0_i32_753
  let c0_i32_754 : BitVec 32 := 0#32
  let v1190 : BitVec 1 := Scalar.cmpi .slt v1186 c0_i32_754
  let v1191 : BitVec 1 := Scalar.xori v1189 v1190
  let c0_i32_752 : BitVec 32 := 0#32
  let v1188 : BitVec 1 := Scalar.cmpi .ne v1187 c0_i32_752
  let v1192 : BitVec 1 := Scalar.andi v1191 v1188
  let v1193 : BitVec 32 := Scalar.addi v1187 v1186
  let v1194 : BitVec 32 := Scalar.select v1192 v1193 v1187
  let c2_i32_755 : BitVec 32 := 2#32
  let v1195 : BitVec 1 := Scalar.cmpi .sge v1194 c2_i32_755
  let v1196 : BitVec 32 := Scalar.extui v1195
  let c0_i32_759 : BitVec 32 := 0#32
  let v1202 : BitVec 32 := Scalar.xori v1196 c0_i32_759
  let c3_i32_762 : BitVec 32 := 3#32
  let v1205 : BitVec 32 := Scalar.muli v1202 c3_i32_762
  let c1_i32_756 : BitVec 32 := 1#32
  let v1197 : BitVec 1 := Scalar.cmpi .eq v1194 c1_i32_756
  let c2_i32_757 : BitVec 32 := 2#32
  let v1198 : BitVec 1 := Scalar.cmpi .eq v1194 c2_i32_757
  let v1199 : BitVec 1 := Scalar.ori v1197 v1198
  let v1200 : BitVec 32 := Scalar.extui v1199
  let c1_i32_758 : BitVec 32 := 1#32
  let v1201 : BitVec 32 := Scalar.xori v1200 c1_i32_758
  let v1206 : BitVec 32 := Scalar.addi v1205 v1201
  let c2_i32_763 : BitVec 32 := 2#32
  let v1207 : BitVec 32 := Scalar.muli c2_i32_763 v1201
  let v1208 : BitVec 32 := Scalar.muli v1207 v1202
  let v1209 : BitVec 32 := Scalar.subi v1206 v1208
  let v1210 : BitVec 32 := Scalar.addi v1204 v1209
  let c1_i32_770 : BitVec 32 := 1#32
  let v1213 : BitVec 32 := Scalar.muli v1210 c1_i32_770
  let v1214 : BitVec 32 := Scalar.addi c0_i32_771 v1213
  v1214.toNat
def k0_dev30 (d0 : Dev nD) : Nat :=
  let c0_i32_805 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_776 : BitVec 32 := 0#32
  let v1223 : BitVec 1 := Scalar.cmpi .sgt v2 c0_i32_776
  let v1224 : BitVec 32 := Scalar.extui v1223
  let c0_i32_777 : BitVec 32 := 0#32
  let v1225 : BitVec 1 := Scalar.cmpi .slt v2 c0_i32_777
  let v1226 : BitVec 32 := Scalar.extui v1225
  let v1227 : BitVec 32 := Scalar.subi v1224 v1226
  let c4_i32_775 : BitVec 32 := 4#32
  let c0_i32_778 : BitVec 32 := 0#32
  let v1228 : BitVec 1 := Scalar.cmpi .sgt c4_i32_775 c0_i32_778
  let v1229 : BitVec 32 := Scalar.extui v1228
  let c0_i32_779 : BitVec 32 := 0#32
  let v1230 : BitVec 1 := Scalar.cmpi .slt c4_i32_775 c0_i32_779
  let v1231 : BitVec 32 := Scalar.extui v1230
  let v1232 : BitVec 32 := Scalar.subi v1229 v1231
  let v1233 : BitVec 1 := Scalar.cmpi .ne v1227 v1232
  let v1234 : BitVec 32 := Scalar.remsi v2 c4_i32_775
  let c0_i32_780 : BitVec 32 := 0#32
  let v1235 : BitVec 1 := Scalar.cmpi .ne v1234 c0_i32_780
  let v1236 : BitVec 1 := Scalar.andi v1233 v1235
  let v1222 : BitVec 32 := Scalar.divsi v2 c4_i32_775
  let c1_i32_781 : BitVec 32 := 1#32
  let v1237 : BitVec 32 := Scalar.subi v1222 c1_i32_781
  let v1238 : BitVec 32 := Scalar.select v1236 v1237 v1222
  let c0_i32_793 : BitVec 32 := 0#32
  let v1257 : BitVec 32 := Scalar.xori v1238 c0_i32_793
  let c4_i32_794 : BitVec 32 := 4#32
  let v1258 : BitVec 32 := Scalar.muli v1257 c4_i32_794
  let c4_i32_782 : BitVec 32 := 4#32
  let c0_i32_783 : BitVec 32 := 0#32
  let v1239 : BitVec 1 := Scalar.cmpi .eq c4_i32_782 c0_i32_783
  let c1_i32_784 : BitVec 32 := 1#32
  let v1240 : BitVec 32 := Scalar.select v1239 c1_i32_784 c4_i32_782
  let v1241 : BitVec 32 := Scalar.remsi v2 v1240
  let c0_i32_786 : BitVec 32 := 0#32
  let v1243 : BitVec 1 := Scalar.cmpi .slt v1241 c0_i32_786
  let c0_i32_787 : BitVec 32 := 0#32
  let v1244 : BitVec 1 := Scalar.cmpi .slt v1240 c0_i32_787
  let v1245 : BitVec 1 := Scalar.xori v1243 v1244
  let c0_i32_785 : BitVec 32 := 0#32
  let v1242 : BitVec 1 := Scalar.cmpi .ne v1241 c0_i32_785
  let v1246 : BitVec 1 := Scalar.andi v1245 v1242
  let v1247 : BitVec 32 := Scalar.addi v1241 v1240
  let v1248 : BitVec 32 := Scalar.select v1246 v1247 v1241
  let c2_i32_788 : BitVec 32 := 2#32
  let v1249 : BitVec 1 := Scalar.cmpi .sge v1248 c2_i32_788
  let v1250 : BitVec 32 := Scalar.extui v1249
  let c1_i32_792 : BitVec 32 := 1#32
  let v1256 : BitVec 32 := Scalar.xori v1250 c1_i32_792
  let c3_i32_795 : BitVec 32 := 3#32
  let v1259 : BitVec 32 := Scalar.muli v1256 c3_i32_795
  let c1_i32_789 : BitVec 32 := 1#32
  let v1251 : BitVec 1 := Scalar.cmpi .eq v1248 c1_i32_789
  let c2_i32_790 : BitVec 32 := 2#32
  let v1252 : BitVec 1 := Scalar.cmpi .eq v1248 c2_i32_790
  let v1253 : BitVec 1 := Scalar.ori v1251 v1252
  let v1254 : BitVec 32 := Scalar.extui v1253
  let c0_i32_791 : BitVec 32 := 0#32
  let v1255 : BitVec 32 := Scalar.xori v1254 c0_i32_791
  let v1260 : BitVec 32 := Scalar.addi v1259 v1255
  let c2_i32_796 : BitVec 32 := 2#32
  let v1261 : BitVec 32 := Scalar.muli c2_i32_796 v1255
  let v1262 : BitVec 32 := Scalar.muli v1261 v1256
  let v1263 : BitVec 32 := Scalar.subi v1260 v1262
  let v1264 : BitVec 32 := Scalar.addi v1258 v1263
  let c1_i32_804 : BitVec 32 := 1#32
  let v1267 : BitVec 32 := Scalar.muli v1264 c1_i32_804
  let v1268 : BitVec 32 := Scalar.addi c0_i32_805 v1267
  v1268.toNat
def k0_dev31 (d0 : Dev nD) : Nat :=
  let c0_i32_839 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_810 : BitVec 32 := 0#32
  let v1277 : BitVec 1 := Scalar.cmpi .sgt v2 c0_i32_810
  let v1278 : BitVec 32 := Scalar.extui v1277
  let c0_i32_811 : BitVec 32 := 0#32
  let v1279 : BitVec 1 := Scalar.cmpi .slt v2 c0_i32_811
  let v1280 : BitVec 32 := Scalar.extui v1279
  let v1281 : BitVec 32 := Scalar.subi v1278 v1280
  let c4_i32_809 : BitVec 32 := 4#32
  let c0_i32_812 : BitVec 32 := 0#32
  let v1282 : BitVec 1 := Scalar.cmpi .sgt c4_i32_809 c0_i32_812
  let v1283 : BitVec 32 := Scalar.extui v1282
  let c0_i32_813 : BitVec 32 := 0#32
  let v1284 : BitVec 1 := Scalar.cmpi .slt c4_i32_809 c0_i32_813
  let v1285 : BitVec 32 := Scalar.extui v1284
  let v1286 : BitVec 32 := Scalar.subi v1283 v1285
  let v1287 : BitVec 1 := Scalar.cmpi .ne v1281 v1286
  let v1288 : BitVec 32 := Scalar.remsi v2 c4_i32_809
  let c0_i32_814 : BitVec 32 := 0#32
  let v1289 : BitVec 1 := Scalar.cmpi .ne v1288 c0_i32_814
  let v1290 : BitVec 1 := Scalar.andi v1287 v1289
  let v1276 : BitVec 32 := Scalar.divsi v2 c4_i32_809
  let c1_i32_815 : BitVec 32 := 1#32
  let v1291 : BitVec 32 := Scalar.subi v1276 c1_i32_815
  let v1292 : BitVec 32 := Scalar.select v1290 v1291 v1276
  let c1_i32_827 : BitVec 32 := 1#32
  let v1311 : BitVec 32 := Scalar.xori v1292 c1_i32_827
  let c4_i32_828 : BitVec 32 := 4#32
  let v1312 : BitVec 32 := Scalar.muli v1311 c4_i32_828
  let c4_i32_816 : BitVec 32 := 4#32
  let c0_i32_817 : BitVec 32 := 0#32
  let v1293 : BitVec 1 := Scalar.cmpi .eq c4_i32_816 c0_i32_817
  let c1_i32_818 : BitVec 32 := 1#32
  let v1294 : BitVec 32 := Scalar.select v1293 c1_i32_818 c4_i32_816
  let v1295 : BitVec 32 := Scalar.remsi v2 v1294
  let c0_i32_820 : BitVec 32 := 0#32
  let v1297 : BitVec 1 := Scalar.cmpi .slt v1295 c0_i32_820
  let c0_i32_821 : BitVec 32 := 0#32
  let v1298 : BitVec 1 := Scalar.cmpi .slt v1294 c0_i32_821
  let v1299 : BitVec 1 := Scalar.xori v1297 v1298
  let c0_i32_819 : BitVec 32 := 0#32
  let v1296 : BitVec 1 := Scalar.cmpi .ne v1295 c0_i32_819
  let v1300 : BitVec 1 := Scalar.andi v1299 v1296
  let v1301 : BitVec 32 := Scalar.addi v1295 v1294
  let v1302 : BitVec 32 := Scalar.select v1300 v1301 v1295
  let c2_i32_822 : BitVec 32 := 2#32
  let v1303 : BitVec 1 := Scalar.cmpi .sge v1302 c2_i32_822
  let v1304 : BitVec 32 := Scalar.extui v1303
  let c0_i32_826 : BitVec 32 := 0#32
  let v1310 : BitVec 32 := Scalar.xori v1304 c0_i32_826
  let c3_i32_829 : BitVec 32 := 3#32
  let v1313 : BitVec 32 := Scalar.muli v1310 c3_i32_829
  let c1_i32_823 : BitVec 32 := 1#32
  let v1305 : BitVec 1 := Scalar.cmpi .eq v1302 c1_i32_823
  let c2_i32_824 : BitVec 32 := 2#32
  let v1306 : BitVec 1 := Scalar.cmpi .eq v1302 c2_i32_824
  let v1307 : BitVec 1 := Scalar.ori v1305 v1306
  let v1308 : BitVec 32 := Scalar.extui v1307
  let c0_i32_825 : BitVec 32 := 0#32
  let v1309 : BitVec 32 := Scalar.xori v1308 c0_i32_825
  let v1314 : BitVec 32 := Scalar.addi v1313 v1309
  let c2_i32_830 : BitVec 32 := 2#32
  let v1315 : BitVec 32 := Scalar.muli c2_i32_830 v1309
  let v1316 : BitVec 32 := Scalar.muli v1315 v1310
  let v1317 : BitVec 32 := Scalar.subi v1314 v1316
  let v1318 : BitVec 32 := Scalar.addi v1312 v1317
  let c1_i32_838 : BitVec 32 := 1#32
  let v1321 : BitVec 32 := Scalar.muli v1318 c1_i32_838
  let v1322 : BitVec 32 := Scalar.addi c0_i32_839 v1321
  v1322.toNat
def k0_dev32 (d0 : Dev nD) : Nat :=
  let c0_i32_873 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_844 : BitVec 32 := 0#32
  let v1331 : BitVec 1 := Scalar.cmpi .sgt v2 c0_i32_844
  let v1332 : BitVec 32 := Scalar.extui v1331
  let c0_i32_845 : BitVec 32 := 0#32
  let v1333 : BitVec 1 := Scalar.cmpi .slt v2 c0_i32_845
  let v1334 : BitVec 32 := Scalar.extui v1333
  let v1335 : BitVec 32 := Scalar.subi v1332 v1334
  let c4_i32_843 : BitVec 32 := 4#32
  let c0_i32_846 : BitVec 32 := 0#32
  let v1336 : BitVec 1 := Scalar.cmpi .sgt c4_i32_843 c0_i32_846
  let v1337 : BitVec 32 := Scalar.extui v1336
  let c0_i32_847 : BitVec 32 := 0#32
  let v1338 : BitVec 1 := Scalar.cmpi .slt c4_i32_843 c0_i32_847
  let v1339 : BitVec 32 := Scalar.extui v1338
  let v1340 : BitVec 32 := Scalar.subi v1337 v1339
  let v1341 : BitVec 1 := Scalar.cmpi .ne v1335 v1340
  let v1342 : BitVec 32 := Scalar.remsi v2 c4_i32_843
  let c0_i32_848 : BitVec 32 := 0#32
  let v1343 : BitVec 1 := Scalar.cmpi .ne v1342 c0_i32_848
  let v1344 : BitVec 1 := Scalar.andi v1341 v1343
  let v1330 : BitVec 32 := Scalar.divsi v2 c4_i32_843
  let c1_i32_849 : BitVec 32 := 1#32
  let v1345 : BitVec 32 := Scalar.subi v1330 c1_i32_849
  let v1346 : BitVec 32 := Scalar.select v1344 v1345 v1330
  let c0_i32_861 : BitVec 32 := 0#32
  let v1365 : BitVec 32 := Scalar.xori v1346 c0_i32_861
  let c4_i32_862 : BitVec 32 := 4#32
  let v1366 : BitVec 32 := Scalar.muli v1365 c4_i32_862
  let c4_i32_850 : BitVec 32 := 4#32
  let c0_i32_851 : BitVec 32 := 0#32
  let v1347 : BitVec 1 := Scalar.cmpi .eq c4_i32_850 c0_i32_851
  let c1_i32_852 : BitVec 32 := 1#32
  let v1348 : BitVec 32 := Scalar.select v1347 c1_i32_852 c4_i32_850
  let v1349 : BitVec 32 := Scalar.remsi v2 v1348
  let c0_i32_854 : BitVec 32 := 0#32
  let v1351 : BitVec 1 := Scalar.cmpi .slt v1349 c0_i32_854
  let c0_i32_855 : BitVec 32 := 0#32
  let v1352 : BitVec 1 := Scalar.cmpi .slt v1348 c0_i32_855
  let v1353 : BitVec 1 := Scalar.xori v1351 v1352
  let c0_i32_853 : BitVec 32 := 0#32
  let v1350 : BitVec 1 := Scalar.cmpi .ne v1349 c0_i32_853
  let v1354 : BitVec 1 := Scalar.andi v1353 v1350
  let v1355 : BitVec 32 := Scalar.addi v1349 v1348
  let v1356 : BitVec 32 := Scalar.select v1354 v1355 v1349
  let c2_i32_856 : BitVec 32 := 2#32
  let v1357 : BitVec 1 := Scalar.cmpi .sge v1356 c2_i32_856
  let v1358 : BitVec 32 := Scalar.extui v1357
  let c1_i32_860 : BitVec 32 := 1#32
  let v1364 : BitVec 32 := Scalar.xori v1358 c1_i32_860
  let c3_i32_863 : BitVec 32 := 3#32
  let v1367 : BitVec 32 := Scalar.muli v1364 c3_i32_863
  let c1_i32_857 : BitVec 32 := 1#32
  let v1359 : BitVec 1 := Scalar.cmpi .eq v1356 c1_i32_857
  let c2_i32_858 : BitVec 32 := 2#32
  let v1360 : BitVec 1 := Scalar.cmpi .eq v1356 c2_i32_858
  let v1361 : BitVec 1 := Scalar.ori v1359 v1360
  let v1362 : BitVec 32 := Scalar.extui v1361
  let c1_i32_859 : BitVec 32 := 1#32
  let v1363 : BitVec 32 := Scalar.xori v1362 c1_i32_859
  let v1368 : BitVec 32 := Scalar.addi v1367 v1363
  let c2_i32_864 : BitVec 32 := 2#32
  let v1369 : BitVec 32 := Scalar.muli c2_i32_864 v1363
  let v1370 : BitVec 32 := Scalar.muli v1369 v1364
  let v1371 : BitVec 32 := Scalar.subi v1368 v1370
  let v1372 : BitVec 32 := Scalar.addi v1366 v1371
  let c1_i32_872 : BitVec 32 := 1#32
  let v1375 : BitVec 32 := Scalar.muli v1372 c1_i32_872
  let v1376 : BitVec 32 := Scalar.addi c0_i32_873 v1375
  v1376.toNat
def k0_dev33 (d0 : Dev nD) : Nat :=
  let c0_i32_907 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_878 : BitVec 32 := 0#32
  let v1385 : BitVec 1 := Scalar.cmpi .sgt v2 c0_i32_878
  let v1386 : BitVec 32 := Scalar.extui v1385
  let c0_i32_879 : BitVec 32 := 0#32
  let v1387 : BitVec 1 := Scalar.cmpi .slt v2 c0_i32_879
  let v1388 : BitVec 32 := Scalar.extui v1387
  let v1389 : BitVec 32 := Scalar.subi v1386 v1388
  let c4_i32_877 : BitVec 32 := 4#32
  let c0_i32_880 : BitVec 32 := 0#32
  let v1390 : BitVec 1 := Scalar.cmpi .sgt c4_i32_877 c0_i32_880
  let v1391 : BitVec 32 := Scalar.extui v1390
  let c0_i32_881 : BitVec 32 := 0#32
  let v1392 : BitVec 1 := Scalar.cmpi .slt c4_i32_877 c0_i32_881
  let v1393 : BitVec 32 := Scalar.extui v1392
  let v1394 : BitVec 32 := Scalar.subi v1391 v1393
  let v1395 : BitVec 1 := Scalar.cmpi .ne v1389 v1394
  let v1396 : BitVec 32 := Scalar.remsi v2 c4_i32_877
  let c0_i32_882 : BitVec 32 := 0#32
  let v1397 : BitVec 1 := Scalar.cmpi .ne v1396 c0_i32_882
  let v1398 : BitVec 1 := Scalar.andi v1395 v1397
  let v1384 : BitVec 32 := Scalar.divsi v2 c4_i32_877
  let c1_i32_883 : BitVec 32 := 1#32
  let v1399 : BitVec 32 := Scalar.subi v1384 c1_i32_883
  let v1400 : BitVec 32 := Scalar.select v1398 v1399 v1384
  let c1_i32_895 : BitVec 32 := 1#32
  let v1419 : BitVec 32 := Scalar.xori v1400 c1_i32_895
  let c4_i32_896 : BitVec 32 := 4#32
  let v1420 : BitVec 32 := Scalar.muli v1419 c4_i32_896
  let c4_i32_884 : BitVec 32 := 4#32
  let c0_i32_885 : BitVec 32 := 0#32
  let v1401 : BitVec 1 := Scalar.cmpi .eq c4_i32_884 c0_i32_885
  let c1_i32_886 : BitVec 32 := 1#32
  let v1402 : BitVec 32 := Scalar.select v1401 c1_i32_886 c4_i32_884
  let v1403 : BitVec 32 := Scalar.remsi v2 v1402
  let c0_i32_888 : BitVec 32 := 0#32
  let v1405 : BitVec 1 := Scalar.cmpi .slt v1403 c0_i32_888
  let c0_i32_889 : BitVec 32 := 0#32
  let v1406 : BitVec 1 := Scalar.cmpi .slt v1402 c0_i32_889
  let v1407 : BitVec 1 := Scalar.xori v1405 v1406
  let c0_i32_887 : BitVec 32 := 0#32
  let v1404 : BitVec 1 := Scalar.cmpi .ne v1403 c0_i32_887
  let v1408 : BitVec 1 := Scalar.andi v1407 v1404
  let v1409 : BitVec 32 := Scalar.addi v1403 v1402
  let v1410 : BitVec 32 := Scalar.select v1408 v1409 v1403
  let c2_i32_890 : BitVec 32 := 2#32
  let v1411 : BitVec 1 := Scalar.cmpi .sge v1410 c2_i32_890
  let v1412 : BitVec 32 := Scalar.extui v1411
  let c0_i32_894 : BitVec 32 := 0#32
  let v1418 : BitVec 32 := Scalar.xori v1412 c0_i32_894
  let c3_i32_897 : BitVec 32 := 3#32
  let v1421 : BitVec 32 := Scalar.muli v1418 c3_i32_897
  let c1_i32_891 : BitVec 32 := 1#32
  let v1413 : BitVec 1 := Scalar.cmpi .eq v1410 c1_i32_891
  let c2_i32_892 : BitVec 32 := 2#32
  let v1414 : BitVec 1 := Scalar.cmpi .eq v1410 c2_i32_892
  let v1415 : BitVec 1 := Scalar.ori v1413 v1414
  let v1416 : BitVec 32 := Scalar.extui v1415
  let c1_i32_893 : BitVec 32 := 1#32
  let v1417 : BitVec 32 := Scalar.xori v1416 c1_i32_893
  let v1422 : BitVec 32 := Scalar.addi v1421 v1417
  let c2_i32_898 : BitVec 32 := 2#32
  let v1423 : BitVec 32 := Scalar.muli c2_i32_898 v1417
  let v1424 : BitVec 32 := Scalar.muli v1423 v1418
  let v1425 : BitVec 32 := Scalar.subi v1422 v1424
  let v1426 : BitVec 32 := Scalar.addi v1420 v1425
  let c1_i32_906 : BitVec 32 := 1#32
  let v1429 : BitVec 32 := Scalar.muli v1426 c1_i32_906
  let v1430 : BitVec 32 := Scalar.addi c0_i32_907 v1429
  v1430.toNat
def k0_dev34 (d0 : Dev nD) : Nat :=
  let c0_i32_941 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_912 : BitVec 32 := 0#32
  let v1439 : BitVec 1 := Scalar.cmpi .sgt v2 c0_i32_912
  let v1440 : BitVec 32 := Scalar.extui v1439
  let c0_i32_913 : BitVec 32 := 0#32
  let v1441 : BitVec 1 := Scalar.cmpi .slt v2 c0_i32_913
  let v1442 : BitVec 32 := Scalar.extui v1441
  let v1443 : BitVec 32 := Scalar.subi v1440 v1442
  let c4_i32_911 : BitVec 32 := 4#32
  let c0_i32_914 : BitVec 32 := 0#32
  let v1444 : BitVec 1 := Scalar.cmpi .sgt c4_i32_911 c0_i32_914
  let v1445 : BitVec 32 := Scalar.extui v1444
  let c0_i32_915 : BitVec 32 := 0#32
  let v1446 : BitVec 1 := Scalar.cmpi .slt c4_i32_911 c0_i32_915
  let v1447 : BitVec 32 := Scalar.extui v1446
  let v1448 : BitVec 32 := Scalar.subi v1445 v1447
  let v1449 : BitVec 1 := Scalar.cmpi .ne v1443 v1448
  let v1450 : BitVec 32 := Scalar.remsi v2 c4_i32_911
  let c0_i32_916 : BitVec 32 := 0#32
  let v1451 : BitVec 1 := Scalar.cmpi .ne v1450 c0_i32_916
  let v1452 : BitVec 1 := Scalar.andi v1449 v1451
  let v1438 : BitVec 32 := Scalar.divsi v2 c4_i32_911
  let c1_i32_917 : BitVec 32 := 1#32
  let v1453 : BitVec 32 := Scalar.subi v1438 c1_i32_917
  let v1454 : BitVec 32 := Scalar.select v1452 v1453 v1438
  let c1_i32_929 : BitVec 32 := 1#32
  let v1473 : BitVec 32 := Scalar.xori v1454 c1_i32_929
  let c4_i32_930 : BitVec 32 := 4#32
  let v1474 : BitVec 32 := Scalar.muli v1473 c4_i32_930
  let c4_i32_918 : BitVec 32 := 4#32
  let c0_i32_919 : BitVec 32 := 0#32
  let v1455 : BitVec 1 := Scalar.cmpi .eq c4_i32_918 c0_i32_919
  let c1_i32_920 : BitVec 32 := 1#32
  let v1456 : BitVec 32 := Scalar.select v1455 c1_i32_920 c4_i32_918
  let v1457 : BitVec 32 := Scalar.remsi v2 v1456
  let c0_i32_922 : BitVec 32 := 0#32
  let v1459 : BitVec 1 := Scalar.cmpi .slt v1457 c0_i32_922
  let c0_i32_923 : BitVec 32 := 0#32
  let v1460 : BitVec 1 := Scalar.cmpi .slt v1456 c0_i32_923
  let v1461 : BitVec 1 := Scalar.xori v1459 v1460
  let c0_i32_921 : BitVec 32 := 0#32
  let v1458 : BitVec 1 := Scalar.cmpi .ne v1457 c0_i32_921
  let v1462 : BitVec 1 := Scalar.andi v1461 v1458
  let v1463 : BitVec 32 := Scalar.addi v1457 v1456
  let v1464 : BitVec 32 := Scalar.select v1462 v1463 v1457
  let c2_i32_924 : BitVec 32 := 2#32
  let v1465 : BitVec 1 := Scalar.cmpi .sge v1464 c2_i32_924
  let v1466 : BitVec 32 := Scalar.extui v1465
  let c1_i32_928 : BitVec 32 := 1#32
  let v1472 : BitVec 32 := Scalar.xori v1466 c1_i32_928
  let c3_i32_931 : BitVec 32 := 3#32
  let v1475 : BitVec 32 := Scalar.muli v1472 c3_i32_931
  let c1_i32_925 : BitVec 32 := 1#32
  let v1467 : BitVec 1 := Scalar.cmpi .eq v1464 c1_i32_925
  let c2_i32_926 : BitVec 32 := 2#32
  let v1468 : BitVec 1 := Scalar.cmpi .eq v1464 c2_i32_926
  let v1469 : BitVec 1 := Scalar.ori v1467 v1468
  let v1470 : BitVec 32 := Scalar.extui v1469
  let c0_i32_927 : BitVec 32 := 0#32
  let v1471 : BitVec 32 := Scalar.xori v1470 c0_i32_927
  let v1476 : BitVec 32 := Scalar.addi v1475 v1471
  let c2_i32_932 : BitVec 32 := 2#32
  let v1477 : BitVec 32 := Scalar.muli c2_i32_932 v1471
  let v1478 : BitVec 32 := Scalar.muli v1477 v1472
  let v1479 : BitVec 32 := Scalar.subi v1476 v1478
  let v1480 : BitVec 32 := Scalar.addi v1474 v1479
  let c1_i32_940 : BitVec 32 := 1#32
  let v1483 : BitVec 32 := Scalar.muli v1480 c1_i32_940
  let v1484 : BitVec 32 := Scalar.addi c0_i32_941 v1483
  v1484.toNat
def k0_dev35 (d0 : Dev nD) : Nat :=
  let c0_i32_975 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_946 : BitVec 32 := 0#32
  let v1493 : BitVec 1 := Scalar.cmpi .sgt v2 c0_i32_946
  let v1494 : BitVec 32 := Scalar.extui v1493
  let c0_i32_947 : BitVec 32 := 0#32
  let v1495 : BitVec 1 := Scalar.cmpi .slt v2 c0_i32_947
  let v1496 : BitVec 32 := Scalar.extui v1495
  let v1497 : BitVec 32 := Scalar.subi v1494 v1496
  let c4_i32_945 : BitVec 32 := 4#32
  let c0_i32_948 : BitVec 32 := 0#32
  let v1498 : BitVec 1 := Scalar.cmpi .sgt c4_i32_945 c0_i32_948
  let v1499 : BitVec 32 := Scalar.extui v1498
  let c0_i32_949 : BitVec 32 := 0#32
  let v1500 : BitVec 1 := Scalar.cmpi .slt c4_i32_945 c0_i32_949
  let v1501 : BitVec 32 := Scalar.extui v1500
  let v1502 : BitVec 32 := Scalar.subi v1499 v1501
  let v1503 : BitVec 1 := Scalar.cmpi .ne v1497 v1502
  let v1504 : BitVec 32 := Scalar.remsi v2 c4_i32_945
  let c0_i32_950 : BitVec 32 := 0#32
  let v1505 : BitVec 1 := Scalar.cmpi .ne v1504 c0_i32_950
  let v1506 : BitVec 1 := Scalar.andi v1503 v1505
  let v1492 : BitVec 32 := Scalar.divsi v2 c4_i32_945
  let c1_i32_951 : BitVec 32 := 1#32
  let v1507 : BitVec 32 := Scalar.subi v1492 c1_i32_951
  let v1508 : BitVec 32 := Scalar.select v1506 v1507 v1492
  let c1_i32_963 : BitVec 32 := 1#32
  let v1527 : BitVec 32 := Scalar.xori v1508 c1_i32_963
  let c4_i32_964 : BitVec 32 := 4#32
  let v1528 : BitVec 32 := Scalar.muli v1527 c4_i32_964
  let c4_i32_952 : BitVec 32 := 4#32
  let c0_i32_953 : BitVec 32 := 0#32
  let v1509 : BitVec 1 := Scalar.cmpi .eq c4_i32_952 c0_i32_953
  let c1_i32_954 : BitVec 32 := 1#32
  let v1510 : BitVec 32 := Scalar.select v1509 c1_i32_954 c4_i32_952
  let v1511 : BitVec 32 := Scalar.remsi v2 v1510
  let c0_i32_956 : BitVec 32 := 0#32
  let v1513 : BitVec 1 := Scalar.cmpi .slt v1511 c0_i32_956
  let c0_i32_957 : BitVec 32 := 0#32
  let v1514 : BitVec 1 := Scalar.cmpi .slt v1510 c0_i32_957
  let v1515 : BitVec 1 := Scalar.xori v1513 v1514
  let c0_i32_955 : BitVec 32 := 0#32
  let v1512 : BitVec 1 := Scalar.cmpi .ne v1511 c0_i32_955
  let v1516 : BitVec 1 := Scalar.andi v1515 v1512
  let v1517 : BitVec 32 := Scalar.addi v1511 v1510
  let v1518 : BitVec 32 := Scalar.select v1516 v1517 v1511
  let c2_i32_958 : BitVec 32 := 2#32
  let v1519 : BitVec 1 := Scalar.cmpi .sge v1518 c2_i32_958
  let v1520 : BitVec 32 := Scalar.extui v1519
  let c1_i32_962 : BitVec 32 := 1#32
  let v1526 : BitVec 32 := Scalar.xori v1520 c1_i32_962
  let c3_i32_965 : BitVec 32 := 3#32
  let v1529 : BitVec 32 := Scalar.muli v1526 c3_i32_965
  let c1_i32_959 : BitVec 32 := 1#32
  let v1521 : BitVec 1 := Scalar.cmpi .eq v1518 c1_i32_959
  let c2_i32_960 : BitVec 32 := 2#32
  let v1522 : BitVec 1 := Scalar.cmpi .eq v1518 c2_i32_960
  let v1523 : BitVec 1 := Scalar.ori v1521 v1522
  let v1524 : BitVec 32 := Scalar.extui v1523
  let c1_i32_961 : BitVec 32 := 1#32
  let v1525 : BitVec 32 := Scalar.xori v1524 c1_i32_961
  let v1530 : BitVec 32 := Scalar.addi v1529 v1525
  let c2_i32_966 : BitVec 32 := 2#32
  let v1531 : BitVec 32 := Scalar.muli c2_i32_966 v1525
  let v1532 : BitVec 32 := Scalar.muli v1531 v1526
  let v1533 : BitVec 32 := Scalar.subi v1530 v1532
  let v1534 : BitVec 32 := Scalar.addi v1528 v1533
  let c1_i32_974 : BitVec 32 := 1#32
  let v1537 : BitVec 32 := Scalar.muli v1534 c1_i32_974
  let v1538 : BitVec 32 := Scalar.addi c0_i32_975 v1537
  v1538.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_980 : BitVec 32 := 256#32
  let v1547 : BitVec 32 := Scalar.muli v2 c256_i32_980
  let v1548 : Index := Scalar.indexCast v1547
  let c0 : Index := 0#32
  ![v1548.toNat, 0]
def k0_off4 (d0 : Dev nD) (c0_i32_1013 : BitVec 32) (c0_i32_1012 : BitVec 32) (c1_i32_1011 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_996 : BitVec 32 := 0#32
  let v1563 : BitVec 1 := Scalar.cmpi .sgt v2 c0_i32_996
  let v1564 : BitVec 32 := Scalar.extui v1563
  let c0_i32_997 : BitVec 32 := 0#32
  let v1565 : BitVec 1 := Scalar.cmpi .slt v2 c0_i32_997
  let v1566 : BitVec 32 := Scalar.extui v1565
  let v1567 : BitVec 32 := Scalar.subi v1564 v1566
  let c4_i32_995 : BitVec 32 := 4#32
  let c0_i32_998 : BitVec 32 := 0#32
  let v1568 : BitVec 1 := Scalar.cmpi .sgt c4_i32_995 c0_i32_998
  let v1569 : BitVec 32 := Scalar.extui v1568
  let c0_i32_999 : BitVec 32 := 0#32
  let v1570 : BitVec 1 := Scalar.cmpi .slt c4_i32_995 c0_i32_999
  let v1571 : BitVec 32 := Scalar.extui v1570
  let v1572 : BitVec 32 := Scalar.subi v1569 v1571
  let v1573 : BitVec 1 := Scalar.cmpi .ne v1567 v1572
  let v1574 : BitVec 32 := Scalar.remsi v2 c4_i32_995
  let c0_i32_1000 : BitVec 32 := 0#32
  let v1575 : BitVec 1 := Scalar.cmpi .ne v1574 c0_i32_1000
  let v1576 : BitVec 1 := Scalar.andi v1573 v1575
  let v1562 : BitVec 32 := Scalar.divsi v2 c4_i32_995
  let c1_i32_1001 : BitVec 32 := 1#32
  let v1577 : BitVec 32 := Scalar.subi v1562 c1_i32_1001
  let v1578 : BitVec 32 := Scalar.select v1576 v1577 v1562
  let v1597 : BitVec 32 := Scalar.xori v1578 c0_i32_1013
  let c4_i32_1014 : BitVec 32 := 4#32
  let v1598 : BitVec 32 := Scalar.muli v1597 c4_i32_1014
  let c4_i32_1002 : BitVec 32 := 4#32
  let c0_i32_1003 : BitVec 32 := 0#32
  let v1579 : BitVec 1 := Scalar.cmpi .eq c4_i32_1002 c0_i32_1003
  let c1_i32_1004 : BitVec 32 := 1#32
  let v1580 : BitVec 32 := Scalar.select v1579 c1_i32_1004 c4_i32_1002
  let v1581 : BitVec 32 := Scalar.remsi v2 v1580
  let c0_i32_1006 : BitVec 32 := 0#32
  let v1583 : BitVec 1 := Scalar.cmpi .slt v1581 c0_i32_1006
  let c0_i32_1007 : BitVec 32 := 0#32
  let v1584 : BitVec 1 := Scalar.cmpi .slt v1580 c0_i32_1007
  let v1585 : BitVec 1 := Scalar.xori v1583 v1584
  let c0_i32_1005 : BitVec 32 := 0#32
  let v1582 : BitVec 1 := Scalar.cmpi .ne v1581 c0_i32_1005
  let v1586 : BitVec 1 := Scalar.andi v1585 v1582
  let v1587 : BitVec 32 := Scalar.addi v1581 v1580
  let v1588 : BitVec 32 := Scalar.select v1586 v1587 v1581
  let c2_i32_1008 : BitVec 32 := 2#32
  let v1589 : BitVec 1 := Scalar.cmpi .sge v1588 c2_i32_1008
  let v1590 : BitVec 32 := Scalar.extui v1589
  let v1596 : BitVec 32 := Scalar.xori v1590 c0_i32_1012
  let c3_i32_1015 : BitVec 32 := 3#32
  let v1599 : BitVec 32 := Scalar.muli v1596 c3_i32_1015
  let c1_i32_1009 : BitVec 32 := 1#32
  let v1591 : BitVec 1 := Scalar.cmpi .eq v1588 c1_i32_1009
  let c2_i32_1010 : BitVec 32 := 2#32
  let v1592 : BitVec 1 := Scalar.cmpi .eq v1588 c2_i32_1010
  let v1593 : BitVec 1 := Scalar.ori v1591 v1592
  let v1594 : BitVec 32 := Scalar.extui v1593
  let v1595 : BitVec 32 := Scalar.xori v1594 c1_i32_1011
  let v1600 : BitVec 32 := Scalar.addi v1599 v1595
  let c2_i32_1016 : BitVec 32 := 2#32
  let v1601 : BitVec 32 := Scalar.muli c2_i32_1016 v1595
  let v1602 : BitVec 32 := Scalar.muli v1601 v1596
  let v1603 : BitVec 32 := Scalar.subi v1600 v1602
  let v1604 : BitVec 32 := Scalar.addi v1598 v1603
  let c256_i32_1017 : BitVec 32 := 256#32
  let v1605 : BitVec 32 := Scalar.muli v1604 c256_i32_1017
  let v1606 : Index := Scalar.indexCast v1605
  let c0_1018 : Index := 0#32
  ![v1606.toNat, 0]
def k0_off4_at (r : Fin 7) : BitVec 32 × BitVec 32 × BitVec 32 :=
  if r.val < 3 then
    if r.val < 1 then
      (0#32, 0#32, 1#32)
    else
      if r.val < 2 then
        (0#32, 1#32, 0#32)
      else
        (1#32, 0#32, 0#32)
  else
    if r.val < 5 then
      if r.val < 4 then
        (0#32, 1#32, 1#32)
      else
        (1#32, 1#32, 0#32)
    else
      if r.val < 6 then
        (1#32, 0#32, 1#32)
      else
        (1#32, 1#32, 1#32)
-- ==== ReferenceIdeal.lean ====
abbrev S2048x2048 : Shape := ⟨2, ![2048, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.K.Prog.lean ====
/- The kernel body written as loops over its four row tiles and seven peers, and the theorem that the printed
   body is this program. -/
module

public import proofs.«01_k».proof.Proof.Gen.KernelIdeal.Skeleton
public import proofs.«01_k».proof.Proof.Gen.KernelIdeal.Frame
public import Idealize.ShloMosaic.Lib.Pipeline.Regions

@[expose] public section

set_option maxRecDepth 65536

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

/-! ## The arrays and the semaphores -/

/-- The activations' array. -/
abbrev xM : Memref sig .tc .hbm S2048x256 .f32 := Memref.whole main_arg0
/-- The weights' array. -/
abbrev wM : Memref sig .tc .hbm S2048x2048 .f32 := Memref.whole main_arg1
/-- The result's array. -/
abbrev outM : Memref sig .tc .hbm S256x2048 .f32 := Memref.whole main_v1
/-- The accumulator. -/
abbrev accM : Memref sig .tc .vmem S256x2048 .f32 := Memref.whole cc0_scratch0
/-- The staged weights. -/
abbrev wvM : Memref sig .tc .vmem S2048x2048 .f32 := Memref.whole cc0_scratch1
/-- The staged own rows of the activations. -/
abbrev xlM : Memref sig .tc .vmem S256x256 .f32 := Memref.whole cc0_scratch2
/-- The slots the peers' rows arrive in. -/
abbrev gM : Memref sig .tc .vmem S7x256x256 .f32 := Memref.whole cc0_scratch3

/-- A device's 256 rows of the activations lie in the array. -/
theorem inbXl (e : Dev nD) : ∀ a, (![256 * e.val, 0] : Fin 2 → Nat) a + S256x256.size a ≤ S2048x256.size a := by
  revert e; decide
/-- One tile of a device's rows lies in the array. -/
theorem inbX (e : Dev nD) (p : Fin 4) :
    ∀ a, (![256 * e.val + 64 * p.val, 0] : Fin 2 → Nat) a + S64x256.size a ≤ S2048x256.size a := by
  revert e p; decide
/-- A device's 256 rows of the weights lie in the array. -/
theorem inbW (e : Dev nD) : ∀ a, (![256 * e.val, 0] : Fin 2 → Nat) a + S256x2048.size a ≤ S2048x2048.size a := by
  revert e; decide
/-- One tile of a slot lies in the slots. -/
theorem inbG (j : Fin 7) (p : Fin 4) :
    ∀ a, (![j.val, 64 * p.val, 0] : Fin 3 → Nat) a + S1x64x256.size a ≤ S7x256x256.size a := by
  revert j p; decide
/-- One tile of the accumulator lies in it. -/
theorem inbA (p : Fin 4) : ∀ a, (![64 * p.val, 0] : Fin 2 → Nat) a + S64x2048.size a ≤ S256x2048.size a := by
  revert p; decide
/-- A tile-and-slot index lies in the semaphore array. -/
theorem inbS (p : Fin 4) (j : Fin 7) : ∀ a, (![p.val, j.val] : Fin 2 → Nat) a + S1x1.size a ≤ S4x7.size a := by
  revert p j; decide
/-- A tile's index lies in the semaphore array. -/
theorem inbO (p : Fin 4) : ∀ a, (![p.val] : Fin 1 → Nat) a + S1.size a ≤ S4.size a := by
  revert p; decide

/-- The words that say in which coordinates (z, y, x) the `j`-th peer differs. -/
def wz : Fin 7 → BitVec 32 | 0 => 0#32 | 1 => 0#32 | 2 => 1#32 | 3 => 0#32 | 4 => 1#32 | 5 => 1#32 | 6 => 1#32
def wy : Fin 7 → BitVec 32 | 0 => 0#32 | 1 => 1#32 | 2 => 0#32 | 3 => 1#32 | 4 => 0#32 | 5 => 1#32 | 6 => 1#32
def wx : Fin 7 → BitVec 32 | 0 => 1#32 | 1 => 0#32 | 2 => 0#32 | 3 => 1#32 | 4 => 1#32 | 5 => 0#32 | 6 => 1#32

/-- The number of the `j`-th peer, as the kernel computes it. -/
def devN (d0 : Dev nD) : Fin 7 → Nat
  | 0 => k0_dev8 d0 | 1 => k0_dev9 d0 | 2 => k0_dev10 d0 | 3 => k0_dev11 d0
  | 4 => k0_dev12 d0 | 5 => k0_dev13 d0 | 6 => k0_dev14 d0
theorem devN_lt (d0 : Dev nD) (j : Fin 7) : devN d0 j < nD := by
  revert d0 j; decide +kernel
/-- The number of the device signalled `k`-th. -/
def sigN (d0 : Dev nD) : Fin 7 → Nat
  | 0 => k0_dev1 d0 | 1 => k0_dev2 d0 | 2 => k0_dev3 d0 | 3 => k0_dev4 d0
  | 4 => k0_dev5 d0 | 5 => k0_dev6 d0 | 6 => k0_dev7 d0
theorem sigN_lt (d0 : Dev nD) (k : Fin 7) : sigN d0 k < nD := by
  revert d0 k; decide +kernel

theorem off2_inb (d0 : Dev nD) (p : Fin 4) (j : Fin 7) :
    ∀ a, (k0_off2 d0 (wz j) (wy j) (wx j) (BitVec.ofNat 32 (64 * p.val))) a + S64x256.size a ≤ S2048x256.size a := by
  revert d0 p j; decide +kernel
theorem off4_inb (d0 : Dev nD) (j : Fin 7) :
    ∀ a, (k0_off4 d0 (wz j) (wy j) (wx j)) a + S256x2048.size a ≤ S2048x2048.size a := by
  revert d0 j; decide +kernel

/-- The tile of the activations sent to the `j`-th peer, at the printed offset. -/
abbrev srcV (d0 : Dev nD) (p : Fin 4) (j : Fin 7) : Memref sig .tc .hbm S64x256 .f32 :=
  xM.slice (Rect.unit (s := S2048x256) (k0_off2 d0 (wz j) (wy j) (wx j) (BitVec.ofNat 32 (64 * p.val))) S64x256.size (off2_inb d0 p j)) (fun _ => rfl)
/-- Tile `p` of slot `j`, as the copies name it. -/
abbrev gV (p : Fin 4) (j : Fin 7) : Memref sig .tc .vmem S64x256 .f32 :=
  (gM.slice (Rect.unit (s := S7x256x256) ![j.val, 64 * p.val, 0] S1x64x256.size (inbG j p)) (fun _ => rfl)).squeeze S64x256 squeezes_S1x64x256_S64x256
/-- Tile `p` of the accumulator. -/
abbrev accV (p : Fin 4) : Memref sig .tc .vmem S64x2048 .f32 :=
  accM.slice (Rect.unit (s := S256x2048) ![64 * p.val, 0] S64x2048.size (inbA p)) (fun _ => rfl)
/-- Tile `p` of the result. -/
abbrev outV (p : Fin 4) : Memref sig .tc .hbm S64x2048 .f32 :=
  outM.slice (Rect.unit (s := S256x2048) ![64 * p.val, 0] S64x2048.size (inbA p)) (fun _ => rfl)
/-- The own rows of the activations, at the printed offset. -/
abbrev ownV (d0 : Dev nD) : Memref sig .tc .hbm S256x256 .f32 :=
  xM.slice (Rect.unit (s := S2048x256) (k0_off1 d0) S256x256.size (k0_off1_inb d0)) (fun _ => rfl)

/-- The semaphore a sent tile counts on at the sender. -/
abbrev sendS (p : Fin 4) (j : Fin 7) : DmaSem sig :=
  ((cc0_scratch5.slice (Rect.unit (s := S4x7) ![p.val, j.val] S1x1.size (inbS p j))).squeeze S_ squeezes_S1x1_S_).sem
/-- The semaphore a sent tile counts on at the receiver. -/
abbrev recvS (p : Fin 4) (j : Fin 7) : DmaSem sig :=
  ((cc0_scratch6.slice (Rect.unit (s := S4x7) ![p.val, j.val] S1x1.size (inbS p j))).squeeze S_ squeezes_S1x1_S_).sem
/-- The semaphore a written-back tile counts on. -/
abbrev outS (p : Fin 4) : DmaSem sig :=
  ((cc0_scratch7.slice (Rect.unit (s := S4) ![p.val] S1.size (inbO p))).squeeze S_ squeezes_S1_S_).sem
/-- The semaphores of the two local fetches. -/
abbrev wS : DmaSem sig := cc0_scratch8.sem
abbrev xS : DmaSem sig := cc0_scratch9.sem
/-- The barrier's semaphore. -/
abbrev barS : Sem sig := (SemArray.scalar (sig.barrier 0 rfl) : Sems sig S_).sem

/-! ## The program -/

/-- Run `f` at the members of a list, in order. -/
def seqL {E : Type → Type} {α : Type} (f : α → Prog E PUnit) : List α → Prog E PUnit
  | [] => pure ⟨⟩
  | a :: l => f a >>= fun _ => seqL f l

/-- A kernel program of the TensorCore without a result. -/
abbrev KProg (F : FTy → Type) [FloatOps F] := Prog (TpuEff nD τ sig (Elt F) Λ₀ .tc) PUnit

/-- Signal the `k`-th other device's barrier. -/
def sigStep (d0 : Dev nD) (k : Fin 7) : KProg F :=
  semSignalWord (⟨sigN d0 k, sigN_lt d0 k⟩ : Dev nD) barS 1#32

/-- Send one tile to one peer. -/
def sendStep (d0 : Dev nD) (pj : Fin 4 × Fin 7) : KProg F :=
  Prog.lift (.enqueueDma (srcV d0 pj.1 pj.2) (.remote (Dev.tc (⟨devN d0 pj.2, devN_lt d0 pj.2⟩ : Dev nD)) (gV pj.1 pj.2) (.dma (sendS pj.1 pj.2))) (.dma (recvS pj.1 pj.2)) (View.wordExact_bits rfl) ((View.wordExact_bits rfl).reshape _ _) ⟨⟨rfl, Or.inl rfl⟩, trivial⟩)

/-- The whole accumulator set to the own rows' product. -/
def ownStep (d0 : Dev nD) : KProg F := do
  let w : Vec F S256x2048 .f32 ← Prog.lift (.load wvM (Rect.unit (s := S2048x2048) (k0_off3 d0) S256x2048.size (k0_off3_inb d0)).toLoadRect (View.loadsAt_vmem h_S256x2048))
  let x : Vec F S256x256 .f32 ← Prog.lift (.load xlM (Rect.unit (s := S256x256) ![0, 0] S256x256.size inb_S256x256_S256x256_0_0).toLoadRect (View.loadsAt_vmem h_S256x256))
  let _a : Vec F S256x2048 .f32 ← Prog.lift (.load accM (Rect.unit (s := S256x2048) ![0, 0] S256x2048.size inb_S256x2048_S256x2048_0_0).toLoadRect (View.loadsAt_vmem h_S256x2048))
  Prog.lift (.store accM (Rect.unit (s := S256x2048) ![0, 0] S256x2048.size inb_S256x2048_S256x2048_0_0) (k0_pay1 w x) Finset.univ (View.stores_vmem_bits_univ h_S256x2048 rfl) (.inl rfl))

/-- Wait for one peer's tile and add its product to the accumulator's tile. -/
def recvStep (d0 : Dev nD) (p : Fin 4) (j : Fin 7) : KProg F := do
  Prog.lift (.waitDma2 (recvS p j) (srcV d0 p j) (gV p j) (View.wordExact_bits rfl) ((View.wordExact_bits rfl).reshape _ _))
  let w : Vec F S256x2048 .f32 ← Prog.lift (.load wvM (Rect.unit (s := S2048x2048) (k0_off4 d0 (wz j) (wy j) (wx j)) S256x2048.size (off4_inb d0 j)).toLoadRect (View.loadsAt_vmem h_S256x2048))
  let a : Vec F S64x2048 .f32 ← Prog.lift (.load accM (Rect.unit (s := S256x2048) ![64 * p.val, 0] S64x2048.size (inbA p)).toLoadRect (View.loadsAt_vmem h_S64x2048))
  let g : Vec F S1x64x256 .f32 ← Prog.lift (.load gM (Rect.unit (s := S7x256x256) ![j.val, 64 * p.val, 0] S1x64x256.size (inbG j p)).toLoadRect (View.loadsAt_vmem h_S1x64x256))
  let _a : Vec F S64x2048 .f32 ← Prog.lift (.load accM (Rect.unit (s := S256x2048) ![64 * p.val, 0] S64x2048.size (inbA p)).toLoadRect (View.loadsAt_vmem h_S64x2048))
  Prog.lift (.store accM (Rect.unit (s := S256x2048) ![64 * p.val, 0] S64x2048.size (inbA p)) (k0_pay4 w a g) Finset.univ (View.stores_vmem_bits_univ h_S64x2048 rfl) (.inl rfl))

/-- Apply the activation function to the accumulator's tile and start its copy to the result. -/
def epiStep (p : Fin 4) : KProg F := do
  let a : Vec F S64x2048 .f32 ← Prog.lift (.load accM (Rect.unit (s := S256x2048) ![64 * p.val, 0] S64x2048.size (inbA p)).toLoadRect (View.loadsAt_vmem h_S64x2048))
  let _a : Vec F S64x2048 .f32 ← Prog.lift (.load accM (Rect.unit (s := S256x2048) ![64 * p.val, 0] S64x2048.size (inbA p)).toLoadRect (View.loadsAt_vmem h_S64x2048))
  Prog.lift (.store accM (Rect.unit (s := S256x2048) ![64 * p.val, 0] S64x2048.size (inbA p)) (k0_pay11 a) Finset.univ (View.stores_vmem_bits_univ h_S64x2048 rfl) (.inl rfl))
  Prog.lift (.enqueueDma (accV p) (.here (outV p)) (.dma (outS p)) (View.wordExact_bits rfl) (View.wordExact_bits rfl) ⟨Or.inl rfl, trivial⟩)

/-- The order in which a tile's seven peers are waited for. -/
def order : List (Fin 7) := [0, 1, 2, 3, 5, 4, 6]

/-- One tile: the seven peers, then the activation function. -/
def tileStep (d0 : Dev nD) (p : Fin 4) : KProg F := do
  seqL (recvStep d0 p) order
  epiStep p

/-- Wait for one tile's copy to the result. -/
def outWait (p : Fin 4) : KProg F :=
  Prog.lift (.waitDma2 (outS p) (accV p) (outV p) (View.wordExact_bits rfl) (View.wordExact_bits rfl))

/-- Wait for one sent tile to have left. -/
def sendWait (d0 : Dev nD) (pj : Fin 4 × Fin 7) : KProg F :=
  Prog.lift (.waitDma2 (sendS pj.1 pj.2) (gV pj.1 pj.2) (srcV d0 pj.1 pj.2) ((View.wordExact_bits rfl).reshape _ _) (View.wordExact_bits rfl))

def slots : List (Fin 7) := [0, 1, 2, 3, 4, 5, 6]
def tiles : List (Fin 4) := [0, 1, 2, 3]
/-- Every tile and peer, tile by tile. -/
def pairs : List (Fin 4 × Fin 7) :=
  [(0, 0), (0, 1), (0, 2), (0, 3), (0, 4), (0, 5), (0, 6), (1, 0), (1, 1), (1, 2), (1, 3), (1, 4), (1, 5), (1, 6),
   (2, 0), (2, 1), (2, 2), (2, 3), (2, 4), (2, 5), (2, 6), (3, 0), (3, 1), (3, 2), (3, 3), (3, 4), (3, 5), (3, 6)]

/-- What the body does once it knows its device. -/
def progAt (d0 : Dev nD) : KProg F := do
  Prog.lift (.enqueueDma wM (.here wvM) (.dma wS) (Memref.isWhole_whole _).wordExact (Memref.isWhole_whole _).wordExact ⟨Or.inl rfl, trivial⟩)
  Prog.lift (.enqueueDma (ownV d0) (.here xlM) (.dma xS) (View.wordExact_bits rfl) (Memref.isWhole_whole _).wordExact ⟨Or.inl rfl, trivial⟩)
  seqL (sigStep d0) slots
  semWaitWord barS 7#32
  seqL (sendStep d0) pairs
  Prog.lift (.waitDma2 wS wM wvM (Memref.isWhole_whole _).wordExact (Memref.isWhole_whole _).wordExact)
  Prog.lift (.waitDma2 xS (ownV d0) xlM (View.wordExact_bits rfl) (Memref.isWhole_whole _).wordExact)
  ownStep d0
  seqL (tileStep d0) tiles
  seqL outWait tiles
  seqL (sendWait d0) pairs

/-- The body. -/
def prog : KProg F := Prog.lift .deviceId >>= fun d0 => progAt d0

set_option maxHeartbeats 4000000 in
/-- The printed body, on the buffers the launch gives it, is this program. -/
theorem body_eq (t : Fin cfg0.N) : bodyAt0 (F := F) t = prog := by
  chain_rfl

end Cert.KernelIdeal.Hand

end
-- ==== Proof.K.Peers.lean ====
/- Which device each of a device's seven slots belongs to, and the printed device numbers and offsets in closed form. -/
module

public import proofs.«01_k».proof.Proof.K.Prog

@[expose] public section

set_option maxRecDepth 65536

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

/-- The bits in which a device's number differs from its `j`-th peer's. -/
def mask : Fin 7 → Nat | 0 => 1 | 1 => 3 | 2 => 4 | 3 => 2 | 4 => 5 | 5 => 7 | 6 => 6

/-- The `j`-th peer of a device. -/
def peer (j : Fin 7) (c : Dev nD) : Dev nD := ⟨Nat.xor c.val (mask j), by revert c j; decide⟩

/-- The peer relation of a slot is symmetric. -/
theorem peer_peer (j : Fin 7) (c : Dev nD) : peer j (peer j c) = c := by revert j c; decide
/-- No device is its own peer. -/
theorem peer_ne (j : Fin 7) (c : Dev nD) : peer j c ≠ c := by revert j c; decide
/-- Different slots belong to different peers. -/
theorem peer_inj (j j' : Fin 7) (c : Dev nD) (h : peer j c = peer j' c) : j = j' := by
  revert j j' c; decide
/-- Every other device is some slot's peer. -/
theorem peer_surj (c d : Dev nD) (h : d ≠ c) : ∃ j, peer j c = d := by revert c d; decide

/-- Exchanging a slot's two peers, as a permutation of the devices. -/
def peerE (j : Fin 7) : Dev nD ≃ Dev nD := ⟨peer j, peer j, peer_peer j, peer_peer j⟩

/-- The slot under which the device signalled `k`-th is known. -/
def sj (c : Dev nD) (k : Fin 7) : Fin 7 :=
  if h : ∃ j : Fin 7, (peer j c).val = (c.val + k.val + 1) % 8 then Fin.find? (fun j : Fin 7 => (peer j c).val = (c.val + k.val + 1) % 8) |>.getD 0 else 0

/-- The signals go to the peers, each once. -/
theorem sj_inj (c : Dev nD) : Function.Injective (sj c) := by
  intro a b; revert c a b; decide +kernel

theorem sig_peer (c : Dev nD) (k : Fin 7) : (⟨sigN c k, sigN_lt c k⟩ : Dev nD) = peer (sj c k) c := by
  apply Fin.ext; revert c k; decide +kernel
theorem dev_peer (c : Dev nD) (j : Fin 7) : (⟨devN c j, devN_lt c j⟩ : Dev nD) = peer j c := by
  apply Fin.ext; revert c j; decide +kernel

theorem off1_eq (c : Dev nD) : k0_off1 c = ![256 * c.val, 0] := by revert c; decide +kernel
theorem off3_eq (c : Dev nD) : k0_off3 c = ![256 * c.val, 0] := by revert c; decide +kernel
theorem off2_eq (c : Dev nD) (p : Fin 4) (j : Fin 7) :
    k0_off2 c (wz j) (wy j) (wx j) (BitVec.ofNat 32 (64 * p.val)) = ![256 * (peer j c).val + 64 * p.val, 0] := by
  revert c p j; decide +kernel
theorem off4_eq (c : Dev nD) (j : Fin 7) :
    k0_off4 c (wz j) (wy j) (wx j) = ![256 * (peer j c).val, 0] := by
  revert c j; decide +kernel

/-! ## The closed forms' views -/

/-- The rectangle of a device's 256 rows of the activations. -/
abbrev xlR (e : Dev nD) : Rect S2048x256 := Rect.unit (s := S2048x256) ![256 * e.val, 0] S256x256.size (inbXl e)
/-- The rectangle of one tile of a device's rows of the activations. -/
abbrev xR (e : Dev nD) (p : Fin 4) : Rect S2048x256 := Rect.unit (s := S2048x256) ![256 * e.val + 64 * p.val, 0] S64x256.size (inbX e p)
/-- The rectangle of a device's 256 rows of the weights. -/
abbrev wR (e : Dev nD) : Rect S2048x2048 := Rect.unit (s := S2048x2048) ![256 * e.val, 0] S256x2048.size (inbW e)
/-- The rectangle of one tile of a slot. -/
abbrev gR (j : Fin 7) (p : Fin 4) : Rect S7x256x256 := Rect.unit (s := S7x256x256) ![j.val, 64 * p.val, 0] S1x64x256.size (inbG j p)
/-- The rectangle of one tile of the accumulator, and of the result. -/
abbrev aR (p : Fin 4) : Rect S256x2048 := Rect.unit (s := S256x2048) ![64 * p.val, 0] S64x2048.size (inbA p)

/-- A device's 256 rows of the activations. -/
abbrev xlV (e : Dev nD) : Memref sig .tc .hbm S256x256 .f32 := xM.slice (xlR e) (fun _ => rfl)
/-- One tile of a device's rows of the activations. -/
abbrev xV (e : Dev nD) (p : Fin 4) : Memref sig .tc .hbm S64x256 .f32 := xM.slice (xR e p) (fun _ => rfl)

/-- Equal offsets cut equal slices. -/
theorem slice_off {κ : Kind} {sp : Space} {s : Shape} {e : EltTy} (M : Memref sig κ sp s e) {sz off off' : Fin s.rank → Nat}
    (h : off = off') (i : ∀ a, off a + sz a ≤ s.size a) (i' : ∀ a, off' a + sz a ≤ s.size a) :
    M.slice (Rect.unit off sz i) (fun _ => rfl) = M.slice (Rect.unit off' sz i') (fun _ => rfl) := by subst h; rfl

/-- Equal offsets read equal values. -/
theorem readAt_off {κ : Kind} {sp : Space} {s : Shape} {e : EltTy} (M : Memref sig κ sp s e) {sz off off' : Fin s.rank → Nat}
    (h : off = off') (i : ∀ a, off a + sz a ≤ s.size a) (i' : ∀ a, off' a + sz a ≤ s.size a) (f : M.view.ty.Contents (Elt F)) :
    M.view.readAt (Elt F) (Rect.unit off sz i).toLoadRect f = M.view.readAt (Elt F) (Rect.unit off' sz i').toLoadRect f := by subst h; rfl

theorem srcV_eq (c : Dev nD) (p : Fin 4) (j : Fin 7) : srcV c p j = xV (peer j c) p := slice_off xM (off2_eq c p j) _ _
theorem ownV_eq (c : Dev nD) : ownV c = xlV c := slice_off xM (off1_eq c) _ _

/-! ## Which counter is which -/

/-- What a DMA counter counts. -/
inductive Use where
  | send (p : Fin 4) (j : Fin 7)
  | recv (p : Fin 4) (j : Fin 7)
  | out (p : Fin 4)
  | w
  | x
  deriving DecidableEq

/-- What the `k`-th DMA counter counts. -/
def use (k : DmaSem sig) : Use :=
  if k.val < 28 then .send (Fin.ofNat 4 (k.val / 7)) (Fin.ofNat 7 k.val)
  else if k.val < 56 then .recv (Fin.ofNat 4 ((k.val - 28) / 7)) (Fin.ofNat 7 (k.val - 28))
  else if k.val < 60 then .out (Fin.ofNat 4 (k.val - 56))
  else if k.val = 60 then .w else .x

theorem use_send (p : Fin 4) (j : Fin 7) : use (sendS p j) = .send p j := by revert p j; decide +kernel
theorem use_recv (p : Fin 4) (j : Fin 7) : use (recvS p j) = .recv p j := by revert p j; decide +kernel
theorem use_out (p : Fin 4) : use (outS p) = .out p := by revert p; decide +kernel
theorem use_w : use wS = .w := by decide +kernel
theorem use_x : use xS = .x := by decide +kernel
/-- The counter of a use. -/
def sem : Use → DmaSem sig
  | .send p j => sendS p j | .recv p j => recvS p j | .out p => outS p | .w => wS | .x => xS
theorem sem_use (k : DmaSem sig) : sem (use k) = k := by revert k; decide +kernel
theorem use_sem (u : Use) : use (sem u) = u := by
  cases u with
  | send p j => exact use_send p j
  | recv p j => exact use_recv p j
  | out p => exact use_out p
  | w => exact use_w
  | x => exact use_x

end Cert.KernelIdeal.Hand

end
-- ==== Proof.K.Sched.lean ====
/- What travels between the devices and inside each: the contents of every copy, and the schedule of the counters' rounds. -/
module

public import proofs.«01_k».proof.Proof.K.Peers
public import Idealize.ShloMosaic.Lib.Pipeline.Launch
public import Idealize.ShloMosaic.Lib.Pipeline.Kit
public import Idealize.ShloMosaic.Lib.Tactic
public import Idealize.ShloMosaic.Lib.Rounds.Family

@[expose] public section

set_option maxRecDepth 65536

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-! ## The resource algebra -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero. -/
def s₀ : MemSt nD τ sig (Elt F) := ⟨m, fun _ => 0, ρ⟩

/-! ## Contents -/

/-- A device's activations at launch. -/
def X (c : Dev nD) : S2048x256.Idx → Elt F .f32 := m ((c : Thread nD τ).loc main_arg0)
/-- A device's weights at launch. -/
def Wt (c : Dev nD) : S2048x2048.Idx → Elt F .f32 := m ((c : Thread nD τ).loc main_arg1)
/-- One tile of device `d`'s rows, of device `e`'s activations. -/
def xT (e d : Dev nD) (p : Fin 4) : S64x256.Idx → Elt F .f32 := fun i => X m e ((xR d p).emb i)
/-- A device's own rows of its activations. -/
def xO (c : Dev nD) : S256x256.Idx → Elt F .f32 := fun i => X m c ((xlR c).emb i)
/-- Device `e`'s rows of device `c`'s weights. -/
def wB (c e : Dev nD) : S256x2048.Idx → Elt F .f32 := fun i => Wt m c ((wR e).emb i)
/-- What arrives in tile `p` of slot `j`. -/
def gT (c : Dev nD) (p : Fin 4) (j : Fin 7) : S64x256.Idx → Elt F .f32 := xT m (peer j c) c p

/-- One tile's product with one block of the weights added to an accumulator's tile. -/
def accStep (w : Vec F S256x2048 .f32) (a : Vec F S64x2048 .f32) (t : Vec F S64x256 .f32) : FVec F S64x2048 .f32 :=
  shapeCast S64x2048 (addf a (matmul dot_S64x256_S256x2048_S64x2048_1_0_0_1_n_n none t w (constant S64x2048 .f32 0x00000000#32))) shapeCasts_S64x2048_S64x2048

/-- The kernel's update of the accumulator is that step. -/
theorem pay4_eq (w : Vec F S256x2048 .f32) (a : Vec F S64x2048 .f32) (g : Vec F S1x64x256 .f32) :
    k0_pay4 w a g = accStep w a (shapeCast S64x256 g shapeCasts_S1x64x256_S64x256) := rfl

/-- The accumulator after the own rows' product. -/
def acc0 (c : Dev nD) : S256x2048.Idx → Elt F .f32 := k0_pay1 (F := F) (wB m c c) (xO m c)
/-- One tile of it. -/
def accP (c : Dev nD) (p : Fin 4) : S64x2048.Idx → Elt F .f32 := fun i => acc0 m c ((aR p).emb i)
/-- One peer's contribution to a tile. -/
def addP (c : Dev nD) (p : Fin 4) (a : S64x2048.Idx → Elt F .f32) (j : Fin 7) : S64x2048.Idx → Elt F .f32 :=
  accStep (F := F) (wB m c (peer j c)) a (gT m c p j)
/-- One tile of the accumulator after every peer. -/
def accE (c : Dev nD) (p : Fin 4) : S64x2048.Idx → Elt F .f32 := order.foldl (addP m c p) (accP m c p)
/-- One tile of the result. -/
def oT (c : Dev nD) (p : Fin 4) : S64x2048.Idx → Elt F .f32 := k0_pay11 (F := F) (accE m c p)

/-! ## The schedule -/

/-- A memref's elements owned at some contents. -/
def held (c : Dev nD) {sp : Space} {sh : Shape} {e : EltTy} (v : Memref sig .tc sp sh e) : sProp 𝕄 :=
  iprop(∃ f : Buf (Elt F) (v.view.loc (c : Thread nD τ)), v.view.loc (c : Thread nD τ) ↦[v.view.set]{fullShare} f)

instance held_storable (c : Dev nD) {sp : Space} {sh : Shape} {e : EltTy} (v : Memref sig .tc sp sh e) :
    BI.Storable (upEmb : UEmb _ 𝕄) (held (F := F) c v) := by unfold held; infer_instance

/-- A memref's elements owned whole, at contents it reads as `V`. -/
abbrev own1 (c : Dev nD) {sp : Space} {sh : Shape} {e : EltTy} (v : Memref sig .tc sp sh e) (V : sh.Idx → Elt F e) : sProp 𝕄 :=
  owns (c : Thread nD τ) v fullShare V

/-- What device `peer j c` hands `c` when it signals: its slot `j`. -/
def barPay (c : Dev nD) (j : Fin 7) : sProp 𝕄 := bigSep Finset.univ fun p : Fin 4 => held (F := F) (peer j c) (gV p j)

/-- What a finished copy gives back or delivers. -/
def usePay (c : Dev nD) : Use → sProp 𝕄
  | .send p j => own1 c (xV (peer j c) p) (xT m c (peer j c) p)
  | .recv p j => own1 c (gV p j) (gT m c p j)
  | .out p => iprop(own1 c (outV p) (oT m c p) ∗ held (F := F) c (accV p))
  | .w => iprop(own1 c wvM (Wt m c) ∗ own1 c wM (Wt m c))
  | .x => iprop(own1 c xlM (xO m c) ∗ own1 c (xlV c) (xO m c))

/-- What a finished copy counts. -/
def useAmt : Use → ℕ
  | .send _ _ => (gV 0 0).view.dmaCredit
  | .recv _ _ => (gV 0 0).view.dmaCredit
  | .out _ => (outV 0).view.dmaCredit
  | .w => wvM.view.dmaCredit
  | .x => xlM.view.dmaCredit

theorem useAmt_pos (u : Use) : 0 < useAmt u := by
  cases u <;> exact View.dmaCredit_pos _ (by decide)

/-- A counter's duties: the barrier's are paid one by each peer, a copy's by the copy. -/
def dutiesOf : SemLoc sig → Finset (Fin 7) | .reg _ => Finset.univ | .dma _ => {0}
def amtOf : SemLoc sig → ℕ | .reg _ => 1 | .dma k => useAmt (use k)
def payOf (c : Dev nD) : SemLoc sig → Fin 7 → sProp 𝕄 | .reg _, j => barPay (F := F) c j | .dma k, _ => usePay m c (use k)

/-- One round of each counter. -/
def Rd : Rounds.Schedule (GSem nD τ sig) (Fin 7) 𝕄 where
  duties g r := if r = 0 ∧ g.1.2 = .tc then dutiesOf g.2 else ∅
  unitless _ := False
  amount g _ _ := amtOf g.2
  payload g _ d := payOf m g.1.1 g.2 d
  amount_pos g _ _ _ := by
    show 0 < amtOf g.2
    cases g.2 with
    | reg s => exact Nat.one_pos
    | dma k => exact useAmt_pos _

instance usePay_storable (c : Dev nD) (u : Use) : BI.Storable (upEmb : UEmb _ 𝕄) (usePay (F := F) m c u) := by
  cases u <;> (unfold usePay; infer_instance)

instance payOf_storable (c : Dev nD) (s : SemLoc sig) (d : Fin 7) : BI.Storable (upEmb : UEmb _ 𝕄) (payOf (F := F) m c s d) := by
  cases s with
  | reg s => show BI.Storable upEmb (barPay (F := F) c d); unfold barPay; infer_instance
  | dma k => show BI.Storable upEmb (usePay m c (use k)); infer_instance

instance Rd_payload_storable (g : GSem nD τ sig) (r : ℕ) (d : Fin 7) :
    BI.Storable (upEmb : UEmb _ 𝕄) ((Rd (F := F) m).payload g r d) := by
  show BI.Storable upEmb (payOf m g.1.1 g.2 d); infer_instance

/-- The counter of a core. -/
abbrev cell (c : Dev nD) (s : SemLoc sig) : GSem nD τ sig := ((c : Thread nD τ), s)
abbrev barL : SemLoc sig := .reg barS

section Facts
variable (c : Dev nD)

theorem duties_eq (s : SemLoc sig) : (Rd (F := F) m).duties (cell c s) 0 = dutiesOf s := by
  dsimp only [Rd]; exact if_pos ⟨rfl, rfl⟩
theorem duties_dma (k : DmaSem sig) : (Rd (F := F) m).duties (cell c (.dma k)) 0 = {0} := duties_eq m c _
theorem duties_bar : (Rd (F := F) m).duties (cell c barL) 0 = Finset.univ := duties_eq m c _
theorem duties_later (g : GSem nD τ sig) : ∀ r, 1 ≤ r → (Rd (F := F) m).duties g r = ∅ :=
  fun r hr => by dsimp only [Rd]; exact if_neg fun h => by omega
theorem mem_duties_dma (k : DmaSem sig) : (0 : Fin 7) ∈ (Rd (F := F) m).duties (cell c (.dma k)) 0 := by
  rw [duties_dma]; exact Finset.mem_singleton_self _

theorem amount_sem (u : Use) (r : ℕ) (d : Fin 7) : (Rd (F := F) m).amount (cell c (.dma (sem u))) r d = useAmt u := by
  show useAmt (use (sem u)) = _; rw [use_sem]
theorem expect_sem (u : Use) : (Rd (F := F) m).expect (cell c (.dma (sem u))) 0 = useAmt u := by
  unfold Schedule.expect Schedule.amountOf; rw [duties_dma, Finset.sum_singleton, amount_sem]
theorem expect_bar : (Rd (F := F) m).expect (cell c barL) 0 = 7 := by
  unfold Schedule.expect Schedule.amountOf
  rw [duties_bar, Finset.sum_congr rfl fun d _ => show (Rd (F := F) m).amount (cell c barL) 0 d = 1 from rfl, Finset.sum_const,
    Finset.card_univ, Fintype.card_fin, smul_eq_mul]

theorem payload_sem (u : Use) (r : ℕ) (d : Fin 7) : (Rd (F := F) m).payload (cell c (.dma (sem u))) r d = usePay m c u := by
  show usePay m c (use (sem u)) = _; rw [use_sem]
theorem payload_bar (r : ℕ) (d : Fin 7) : (Rd (F := F) m).payload (cell c barL) r d = barPay (F := F) c d := rfl

/-- A copy's whole round: what it delivers. -/
theorem rest_sem (u : Use) :
    bigSep ((Rd (F := F) m).duties (cell c (.dma (sem u))) 0 \ ∅) (fun d => (Rd (F := F) m).payload (cell c (.dma (sem u))) 0 d) = usePay m c u := by
  rw [Finset.sdiff_empty, duties_dma, bigSep_singleton, payload_sem]
/-- The barrier's whole round: every peer's slot. -/
theorem rest_bar :
    bigSep ((Rd (F := F) m).duties (cell c barL) 0 \ ∅) (fun d => (Rd (F := F) m).payload (cell c barL) 0 d)
      = bigSep Finset.univ fun j : Fin 7 => barPay (F := F) c j := by
  rw [Finset.sdiff_empty, duties_bar]; rfl

end Facts

/-! ## What each core owes at launch, and the levels -/

/-- What a device owes the tiles' receive counters: a tile's credit for each tile still to send. -/
def owedR (c : Dev nD) (l : List (Fin 4 × Fin 7)) : CellTallies nD τ sig Unit :=
  (l.map fun pj => (tallyAt (cell (peer pj.2 c) (.dma (sem (.recv pj.1 pj.2)))) () (useAmt (.recv pj.1 pj.2)) : CellTallies nD τ sig Unit)).sum
/-- What a device owes the other devices' barriers: one unit for each signal still to send. -/
def owedB (c : Dev nD) (l : List (Fin 7)) : CellTallies nD τ sig Unit :=
  (l.map fun k => (tallyAt (cell (peer (sj c k) c) barL) () 1 : CellTallies nD τ sig Unit)).sum
/-- What a device owes at launch. -/
def O₀ (c : Dev nD) : CellTallies nD τ sig Unit := owedR c pairs + owedB c slots

theorem owedR_cons (c : Dev nD) (a : Fin 4 × Fin 7) (l : List (Fin 4 × Fin 7)) :
    owedR c (a :: l) = owedR c l + tallyAt (cell (peer a.2 c) (.dma (sem (.recv a.1 a.2)))) () (useAmt (.recv a.1 a.2)) := by
  unfold owedR; rw [List.map_cons, List.sum_cons, add_comm]
theorem owedB_cons (c : Dev nD) (a : Fin 7) (l : List (Fin 7)) :
    owedB c (a :: l) = owedB c l + tallyAt (cell (peer (sj c a) c) barL) () 1 := by
  unfold owedB; rw [List.map_cons, List.sum_cons, add_comm]
theorem owedR_nil (c : Dev nD) : owedR c [] = 0 := rfl
theorem owedB_nil (c : Dev nD) : owedB c [] = 0 := rfl

def L (g : GSem nD τ sig) : Finset Unit := if g.1.2 = .tc then {()} else ∅
/-- The level of a counter: a barrier's 1, a received tile's 2, any other 0. -/
def lvOf : SemLoc sig → ℕ | .reg _ => 1 | .dma k => match use k with | .recv _ _ => 2 | _ => 0
def lv (g : GSem nD τ sig) (_ : Unit) : ℕ := lvOf g.2

theorem L_of_ne (g : GSem nD τ sig) (h : g.1.2 ≠ .tc) : L g = ∅ := if_neg h
theorem L_tc (c : Dev nD) (s : SemLoc sig) : L (cell c s) = {()} := if_pos rfl

theorem owedR_pos {c : Dev nD} {l : List (Fin 4 × Fin 7)} {g : GSem nD τ sig} {u : Unit} (h : 0 < owedR c l g u) :
    ∃ p j, g = cell (peer j c) (.dma (sem (.recv p j))) := by
  induction l with
  | nil => exact absurd h (Nat.lt_irrefl 0)
  | cons a l ih =>
    rw [owedR_cons, Pi.add_apply, Finsupp.add_apply, tallyAt_apply] at h
    by_cases hg : g = cell (peer a.2 c) (.dma (sem (.recv a.1 a.2))) ∧ u = ()
    · exact ⟨a.1, a.2, hg.1⟩
    · rw [if_neg hg, Nat.add_zero] at h; exact ih h

/-- A device waiting at its barrier owes only received tiles, which lie above. -/
theorem mayWait_bar (c : Dev nD) (l : List (Fin 4 × Fin 7)) :
    (levAts L lv : sProp 𝕄) ⊢ MayWait (c : Thread nD τ) barL () (owedR c l) :=
  MayOwe.of_cut (L := L) (lev := lv) 1 (fun p hp => by rw [Finset.mem_singleton.mp hp, L_tc]; exact Finset.mem_singleton_self _)
    (fun g u hg => by obtain ⟨p, j, rfl⟩ := owedR_pos hg; rw [L_tc]; exact Finset.mem_singleton_self _)
    (fun p hp => by rw [Finset.mem_singleton.mp hp]; exact Nat.le_refl 1)
    (fun g u hg => by
      obtain ⟨p, j, rfl⟩ := owedR_pos hg
      show 1 < lvOf (.dma (sem (.recv p j)))
      unfold lvOf; simp only [use_sem]; decide)

end Cert.KernelIdeal.Hand

end
-- ==== Proof.K.Pieces.lean ====
/- The arrays cut into the pieces the copies move, and put together again. -/
module

public import proofs.«01_k».proof.Proof.K.Sched
public import Idealize.ShloMosaic.Lib.Pipeline.BigSepL
public import Idealize.ShloMosaic.Lib.Exec.Geometry

@[expose] public section

set_option maxRecDepth 65536

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (c : Dev nD)

/-! ## Any memref, cut by a family of rectangles -/

/-- Owning at a value is owning. -/
theorem held_of_own {sp : Space} {sh : Shape} {e : EltTy} (v : Memref sig .tc sp sh e) (V : sh.Idx → Elt F e) :
    (own1 c v V : sProp 𝕄) ⊢ held (F := F) c v := by
  unfold own1 owns held
  iintro ⟨%f, -, H⟩
  iexists f; iexact H

section Rects
variable {sp : Space} {sh : Shape} {e : EltTy} (v : Memref sig .tc sp sh e) {T : Type} [Fintype T] [DecidableEq T]
  (r : T → Rect sh) (hr : ∀ t a, (r t).stride a = 1) (hd : ∀ t t', t ≠ t' → Disjoint (r t).set (r t').set)
  (hcov : Finset.univ.biUnion (fun t => (r t).set) = Finset.univ)
include hd hcov

theorem held_rects : (held (F := F) c v : sProp 𝕄) ⊢ bigSep Finset.univ fun t => held (F := F) c (v.slice (r t) (hr t)) := by
  unfold held
  iintro ⟨%f, H⟩
  iapply (show _ ⊢ _ from (Entails.of_eq (pointsTo_rects (c : Thread nD τ) v fullShare r hr hd hcov f)).trans
    (bigSep_mono fun t _ => held_of_own c (v.slice (r t) (hr t)) _)) $$ H

theorem held_of_rects : (bigSep Finset.univ fun t => held (F := F) c (v.slice (r t) (hr t)) : sProp 𝕄) ⊢ held (F := F) c v := by
  have hset : v.view.set = (Finset.univ : Finset T).biUnion fun t => (v.view.slice (r t)).set := by
    ext i; constructor
    · intro hi
      rw [View.set, Finset.mem_map] at hi
      obtain ⟨x, -, rfl⟩ := hi
      obtain ⟨t, -, hx⟩ := Finset.mem_biUnion.mp (hcov.symm ▸ Finset.mem_univ x)
      exact Finset.mem_biUnion.mpr ⟨t, Finset.mem_univ t, by rw [View.set_slice]; exact Finset.mem_map_of_mem _ hx⟩
    · intro hi
      obtain ⟨t, -, hx⟩ := Finset.mem_biUnion.mp hi
      exact v.view.set_slice_subset (r t) hx
  unfold held
  refine (BI.bigSep_exists_pi Finset.univ fun (t : T) (f : Buf (Elt F) ((v.slice (r t) (hr t)).view.loc (c : Thread nD τ))) =>
    ((v.slice (r t) (hr t)).view.loc (c : Thread nD τ) ↦[(v.slice (r t) (hr t)).view.set]{fullShare} f : sProp 𝕄)).trans ?_
  iintro ⟨%fs, H⟩
  ihave H' := (pointsTo_biUnion_join (ℓ := v.view.loc (c : Thread nD τ)) (q := fullShare) Finset.univ (fun t => (v.view.slice (r t)).set) fs
    (fun _ => Classical.arbitrary _) (fun t _ t' _ h => by
      rw [View.set_slice, View.set_slice]; exact (Finset.disjoint_map _).mpr (hd t t' h))) $$ H
  icases H' with ⟨%g, -, H'⟩
  iexists g
  rw [hset]
  iexact H'

end Rects

/-! ## The activations: the own rows and the tiles sent -/

/-- The pieces of the activations: the own rows (`none`) and each tile sent. -/
abbrev xFam : Option (Fin 4 × Fin 7) → Rect S2048x256
  | none => xlR c
  | some pj => xR (peer pj.2 c) pj.1

theorem xFam_stride (t : Option (Fin 4 × Fin 7)) (a) : (xFam c t).stride a = 1 := by cases t <;> rfl

/-- The first row of a piece, and the row after its last. -/
def xLo : Option (Fin 4 × Fin 7) → Nat | none => 256 * c.val | some pj => 256 * (peer pj.2 c).val + 64 * pj.1.val
def xHi : Option (Fin 4 × Fin 7) → Nat | none => 256 * c.val + 256 | some pj => 256 * (peer pj.2 c).val + 64 * pj.1.val + 64

theorem xFam_mem (t : Option (Fin 4 × Fin 7)) (i : S2048x256.Idx) : i ∈ (xFam c t).set ↔ xLo c t ≤ (i 0).val ∧ (i 0).val < xHi c t := by
  have h1 : (i 1).val < 256 := (i 1).isLt
  cases t with
  | none =>
    rw [show xFam c none = xlR c from rfl, Rect.mem_set_unit]
    constructor
    · intro h; exact h 0
    · intro h a; fin_cases a
      · exact h
      · exact ⟨Nat.zero_le _, by show (i 1).val < 0 + 256; omega⟩
  | some pj =>
    rw [show xFam c (some pj) = xR (peer pj.2 c) pj.1 from rfl, Rect.mem_set_unit]
    constructor
    · intro h; exact h 0
    · intro h a; fin_cases a
      · exact h
      · exact ⟨Nat.zero_le _, by show (i 1).val < 0 + 256; omega⟩

theorem xFam_sep (t t' : Option (Fin 4 × Fin 7)) (h : t ≠ t') : xHi c t ≤ xLo c t' ∨ xHi c t' ≤ xLo c t := by
  revert h; revert c t t'; decide +kernel

theorem xFam_disj (t t' : Option (Fin 4 × Fin 7)) (h : t ≠ t') : Disjoint (xFam c t).set (xFam c t').set := by
  rw [Finset.disjoint_left]
  intro i hi hi'
  rw [xFam_mem] at hi hi'
  have := xFam_sep c t t' h
  omega

theorem xFam_cov : Finset.univ.biUnion (fun t => (xFam c t).set) = Finset.univ := by
  ext i
  refine ⟨fun _ => Finset.mem_univ _, fun _ => Finset.mem_biUnion.mpr ?_⟩
  have h0 : (i 0).val < 2048 := (i 0).isLt
  by_cases h : (⟨(i 0).val / 256, by show (i 0).val / 256 < 8; omega⟩ : Dev nD) = c
  · refine ⟨none, Finset.mem_univ _, ?_⟩
    have hv : (i 0).val / 256 = c.val := congrArg Fin.val h
    rw [xFam_mem]; show 256 * c.val ≤ _ ∧ _ < 256 * c.val + 256; omega
  · obtain ⟨j, hj⟩ := peer_surj c _ h
    refine ⟨some (⟨(i 0).val % 256 / 64, by omega⟩, j), Finset.mem_univ _, ?_⟩
    have hv : (i 0).val / 256 = (peer j c).val := (congrArg Fin.val hj).symm
    rw [xFam_mem]
    show 256 * (peer j c).val + 64 * ((i 0).val % 256 / 64) ≤ _ ∧ _ < 256 * (peer j c).val + 64 * ((i 0).val % 256 / 64) + 64
    omega

/-- A sum over the pieces: the own rows' and the tiles'. -/
theorem bigSep_pieces (Φ : Option (Fin 4 × Fin 7) → sProp 𝕄) :
    bigSep Finset.univ Φ = iprop(Φ none ∗ bigSepL pairs fun pj => Φ (some pj)) := by
  rw [bigSep_univ_eq_bigSepL (none :: pairs.map some) (by decide) (by decide), bigSepL_cons', bigSepL_map]

theorem x_split : (own1 c xM (X m c) : sProp 𝕄)
    ⊢ iprop(own1 c (xlV c) (xO m c) ∗ bigSepL pairs fun pj => own1 c (xV (peer pj.2 c) pj.1) (xT m c (peer pj.2 c) pj.1)) :=
  (owns_rects (c : Thread nD τ) xM fullShare (xFam c) (xFam_stride c) (xFam_disj c) (xFam_cov c) (X m c)).trans
    (Entails.of_eq (bigSep_pieces _))

theorem x_join : iprop(own1 c (xlV c) (xO m c) ∗ bigSepL pairs fun pj => own1 c (xV (peer pj.2 c) pj.1) (xT m c (peer pj.2 c) pj.1))
    ⊢ (own1 c xM (X m c) : sProp 𝕄) :=
  (Entails.of_eq (bigSep_pieces (F := F) fun t => owns (c : Thread nD τ) (xM.slice (xFam c t) (xFam_stride c t)) fullShare
    (fun j => X m c ((xFam c t).emb j))).symm).trans
    (owns_of_rects (c : Thread nD τ) xM fullShare (xFam c) (xFam_stride c) (xFam_disj c) (xFam_cov c) (X m c))

/-! ## The accumulator and the result: four tiles -/

theorem aR_mem (p : Fin 4) (i : S256x2048.Idx) : i ∈ (aR p).set ↔ 64 * p.val ≤ (i 0).val ∧ (i 0).val < 64 * p.val + 64 := by
  have h1 : (i 1).val < 2048 := (i 1).isLt
  rw [Rect.mem_set_unit]
  constructor
  · intro h; exact h 0
  · intro h a; fin_cases a
    · exact h
    · exact ⟨Nat.zero_le _, by show (i 1).val < 0 + 2048; omega⟩

theorem aR_disj (p p' : Fin 4) (h : p ≠ p') : Disjoint (aR p).set (aR p').set := by
  rw [Finset.disjoint_left]
  intro i hi hi'
  rw [aR_mem] at hi hi'
  have : p.val ≠ p'.val := fun e => h (Fin.ext e)
  omega

theorem aR_cov : Finset.univ.biUnion (fun p => (aR p).set) = Finset.univ := by
  ext i
  refine ⟨fun _ => Finset.mem_univ _, fun _ => Finset.mem_biUnion.mpr ?_⟩
  have h0 : (i 0).val < 256 := (i 0).isLt
  refine ⟨⟨(i 0).val / 64, by omega⟩, Finset.mem_univ _, ?_⟩
  rw [aR_mem]; show 64 * ((i 0).val / 64) ≤ _ ∧ _ < 64 * ((i 0).val / 64) + 64; omega

theorem bigSep_tiles (Φ : Fin 4 → sProp 𝕄) : bigSep Finset.univ Φ = bigSepL tiles Φ :=
  bigSep_univ_eq_bigSepL tiles (by decide) (by decide) Φ
theorem bigSep_slots (Φ : Fin 7 → sProp 𝕄) : bigSep Finset.univ Φ = bigSepL slots Φ :=
  bigSep_univ_eq_bigSepL slots (by decide) (by decide) Φ
theorem bigSep_order (Φ : Fin 7 → sProp 𝕄) : bigSep Finset.univ Φ = bigSepL order Φ :=
  bigSep_univ_eq_bigSepL order (by decide) (by decide) Φ
theorem bigSep_pairs (Φ : Fin 4 × Fin 7 → sProp 𝕄) : bigSep Finset.univ Φ = bigSepL pairs Φ :=
  bigSep_univ_eq_bigSepL pairs (by decide) (by decide) Φ

theorem acc_split (V : S256x2048.Idx → Elt F .f32) :
    (own1 c accM V : sProp 𝕄) ⊢ bigSepL tiles fun p => own1 c (accV p) (fun i => V ((aR p).emb i)) :=
  (owns_rects (c : Thread nD τ) accM fullShare aR (fun _ _ => rfl) aR_disj aR_cov V).trans (Entails.of_eq (bigSep_tiles _))

theorem acc_join : (bigSepL tiles fun p => held (F := F) c (accV p) : sProp 𝕄) ⊢ held (F := F) c accM :=
  (Entails.of_eq (bigSep_tiles (F := F) fun p => held c (accV p)).symm).trans (held_of_rects c accM aR (fun _ _ => rfl) aR_disj aR_cov)

theorem out_split : (held (F := F) c outM : sProp 𝕄) ⊢ bigSepL tiles fun p => held (F := F) c (outV p) :=
  (held_rects c outM aR (fun _ _ => rfl) aR_disj aR_cov).trans (Entails.of_eq (bigSep_tiles _))

/-- The row of a tile, and the tile of a row, of the result. -/
def tileOf (i : S256x2048.Idx) : Fin 4 := ⟨(i 0).val / 64, by have : (i 0).val < 256 := (i 0).isLt; omega⟩
def inTile (i : S256x2048.Idx) : S64x2048.Idx :=
  fun a => ⟨(![(i 0).val % 64, (i 1).val] : Fin 2 → Nat) a, by
    have : (i 1).val < 2048 := (i 1).isLt
    fin_cases a
    · show (i 0).val % 64 < 64; omega
    · exact this⟩

/-- The result of a device: each row from its tile. -/
def outW : S256x2048.Idx → Elt F .f32 := fun i => oT m c (tileOf i) (inTile i)

theorem emb_val {s : Shape} (off size : Fin s.rank → Nat) (inb) (j : (Rect.unit (s := s) off size inb).shape.Idx) (a : Fin s.rank) :
    ((Rect.unit (s := s) off size inb).emb j a).val = off a + (j a).val := by
  rw [Rect.emb_apply]; simp

theorem outW_emb (p : Fin 4) (j : S64x2048.Idx) : outW m c ((aR p).emb j) = oT m c p j := by
  have h0 : (((aR p).emb j 0 : Fin _) : Nat) = 64 * p.val + (j 0).val := emb_val (s := S256x2048) _ _ _ j 0
  have h1 : (((aR p).emb j 1 : Fin _) : Nat) = 0 + (j 1).val := emb_val (s := S256x2048) _ _ _ j 1
  have hj : (j 0).val < 64 := (j 0).isLt
  have ht : tileOf ((aR p).emb j) = p := Fin.ext (by show ((aR p).emb j 0).val / 64 = p.val; rw [h0]; omega)
  have hi : inTile ((aR p).emb j) = j := by
    funext a; fin_cases a <;> apply Fin.ext
    · show ((aR p).emb j 0).val % 64 = (j 0).val; rw [h0]; omega
    · show ((aR p).emb j 1).val = (j 1).val; rw [h1]; omega
  unfold outW; rw [ht, hi]

theorem out_join : (bigSepL tiles fun p => own1 c (outV p) (oT m c p) : sProp 𝕄) ⊢ own1 c outM (outW m c) :=
  (Entails.of_eq ((bigSep_tiles (F := F) fun p => own1 c (outV p) (oT m c p)).symm.trans
      (bigSep_congr fun p _ => by rw [show oT m c p = fun j => outW m c ((aR p).emb j) from funext fun j => (outW_emb m c p j).symm]))).trans
    (owns_of_rects (c : Thread nD τ) outM fullShare aR (fun _ _ => rfl) aR_disj aR_cov (outW m c))

/-! ## The slots: seven times four tiles -/

abbrev gFam (t : Fin 7 × Fin 4) : Rect S7x256x256 := gR t.1 t.2

theorem gFam_mem (t : Fin 7 × Fin 4) (i : S7x256x256.Idx) :
    i ∈ (gFam t).set ↔ (i 0).val = t.1.val ∧ 64 * t.2.val ≤ (i 1).val ∧ (i 1).val < 64 * t.2.val + 64 := by
  have h2 : (i 2).val < 256 := (i 2).isLt
  rw [Rect.mem_set_unit]
  constructor
  · intro h
    have a0 : t.1.val ≤ (i 0).val ∧ (i 0).val < t.1.val + 1 := h 0
    have a1 : 64 * t.2.val ≤ (i 1).val ∧ (i 1).val < 64 * t.2.val + 64 := h 1
    omega
  · intro h a; fin_cases a
    · show t.1.val ≤ (i 0).val ∧ (i 0).val < t.1.val + 1; omega
    · exact h.2
    · exact ⟨Nat.zero_le _, by show (i 2).val < 0 + 256; omega⟩

theorem gFam_disj (t t' : Fin 7 × Fin 4) (h : t ≠ t') : Disjoint (gFam t).set (gFam t').set := by
  rw [Finset.disjoint_left]
  intro i hi hi'
  rw [gFam_mem] at hi hi'
  apply h
  refine Prod.ext (Fin.ext (by omega)) (Fin.ext (by omega))

theorem gFam_cov : Finset.univ.biUnion (fun t => (gFam t).set) = Finset.univ := by
  ext i
  refine ⟨fun _ => Finset.mem_univ _, fun _ => Finset.mem_biUnion.mpr ?_⟩
  have h0 : (i 0).val < 7 := (i 0).isLt
  have h1 : (i 1).val < 256 := (i 1).isLt
  refine ⟨(⟨(i 0).val, h0⟩, ⟨(i 1).val / 64, by omega⟩), Finset.mem_univ _, ?_⟩
  rw [gFam_mem]
  exact ⟨rfl, by show 64 * ((i 1).val / 64) ≤ _; omega, by show _ < 64 * ((i 1).val / 64) + 64; omega⟩

/-- A squeezed view holds what the view holds. -/
theorem held_gV (p : Fin 4) (j : Fin 7) : (held (F := F) c (gV p j) : sProp 𝕄) = held (F := F) c (gM.slice (gR j p) (fun _ => rfl)) := by
  have h : (gV p j).view.set = (gM.slice (gR j p) (fun _ => rfl)).view.set := View.set_reshape _ _
  unfold held
  rw [h]

theorem g_split : (held (F := F) c gM : sProp 𝕄) ⊢ bigSepL slots fun j => bigSep Finset.univ fun p : Fin 4 => held (F := F) c (gV p j) := by
  refine (held_rects c gM gFam (fun _ _ => rfl) gFam_disj gFam_cov).trans (Entails.of_eq ?_)
  rw [bigSep_univ_prod, bigSep_slots]
  simp only [held_gV]

theorem g_join : (bigSep Finset.univ fun pj : Fin 4 × Fin 7 => held (F := F) c (gV pj.1 pj.2) : sProp 𝕄) ⊢ held (F := F) c gM := by
  refine (Entails.of_eq ?_).trans (held_of_rects c gM gFam (fun _ _ => rfl) gFam_disj gFam_cov)
  rw [bigSep_univ_equiv (Equiv.prodComm (Fin 7) (Fin 4)) (fun pj : Fin 4 × Fin 7 => (held (F := F) c (gV pj.1 pj.2) : sProp 𝕄))]
  simp only [held_gV]; rfl

end Cert.KernelIdeal.Hand

end
-- ==== Proof.K.Rules.lean ====
/- Rules for the body's steps: loops over lists, and loads and stores of owned slices. -/
module

public import proofs.«01_k».proof.Proof.K.Pieces

@[expose] public section

set_option maxRecDepth 65536

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev 𝒱₀ : Variants := Variants.none

/-- The weakest precondition of a program run by a device's core. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (c : Dev nD)

/-- A step, then the rest from what the step leaves. -/
theorem wp_then {P Q : sProp 𝕄} {p : KProg F} {α : Type} {k : PUnit → Prog (TpuEff nD τ sig (Elt F) Λ₀ .tc) α} {Φ : α → sProp 𝕄}
    (h : P ⊢ WP c p (fun _ => Q)) : P ⊢ iprop((Q -∗ WP c (k ⟨⟩) Φ) -∗ WP c (p >>= k) Φ) := by
  iintro HP HK
  unfold WP
  rw [wp_bind]
  iapply (wp_wand_r frame (wpE (defs₀ (F := F)) 𝒱₀ (c : Thread nD τ) none) Set.univ (Q := fun _ => Q))
  isplitl [HP]
  · iapply h; iexact HP
  · iintro %a HQ
    iapply HK; iexact HQ

/-- A step at the end. -/
theorem wp_last {P Q R : sProp 𝕄} {p : KProg F} (h : P ⊢ WP c p (fun _ => Q)) : P ⊢ iprop((Q -∗ R) -∗ WP c p (fun _ => R)) := by
  iintro HP HK
  unfold WP
  iapply (wp_wand_r frame (wpE (defs₀ (F := F)) 𝒱₀ (c : Thread nD τ) none) Set.univ (Q := fun _ => Q))
  isplitl [HP]
  · iapply h; iexact HP
  · iintro %a HQ
    iapply HK; iexact HQ

/-- A loop over a list: from `R` at the list and `A` of each member to `R` at the empty list and `B` of each. -/
theorem wp_seqL {α : Type} (P : sProp 𝕄) [BI.Persistent P] (f : α → KProg F) (R : List α → sProp 𝕄) (A B : α → sProp 𝕄)
    (h : ∀ a l, iprop(P ∗ R (a :: l) ∗ A a) ⊢ WP c (f a) (fun _ => iprop(R l ∗ B a))) :
    ∀ l, iprop(P ∗ R l ∗ bigSepL l A) ⊢ WP c (seqL f l) (fun _ => iprop(R [] ∗ bigSepL l B))
  | [] => by
    unfold seqL WP
    simp only [Prog.pure_eq_ret, wp_ret, bigSepL_nil]
    iintro ⟨-, HR, HA⟩
    imodintro
    isplitl [HR] <;> iassumption
  | a :: l => by
    unfold seqL
    rw [bigSepL_cons', bigSepL_cons']
    iintro ⟨#HP, HR, HA, HL⟩
    iapply (wp_then c (h a l)) $$ [HR HA]
    · isplitr; · iexact HP
      isplitl [HR] <;> iassumption
    iintro ⟨HR, HB⟩
    iapply (wp_last c (wp_seqL P f R A B h l)) $$ [HR HL]
    · isplitr; · iexact HP
      isplitl [HR] <;> iassumption
    iintro ⟨HR, HL⟩
    isplitl [HR]; · iexact HR
    isplitl [HB] <;> iassumption

/-! ## Loads and stores -/

section Access
variable {sp : CoreSpace} {sh : Shape} {e : EltTy} (M : Memref sig .tc sp sh e) (r : Rect sh)

/-- A load of an owned slice reads what the slice holds. -/
theorem load_slice {α : Type} {Q : α → sProp 𝕄} (hr : ∀ a, r.stride a = 1) {hl : M.view.LoadsAt r.toLoadRect} {k : (r.shape.Idx → Elt F e) → Prog (TpuEff nD τ sig (Elt F) Λ₀ .tc) α} (V : r.shape.Idx → Elt F e) :
    (own1 c (M.slice r hr) V : sProp 𝕄)
      ⊢ iprop((own1 c (M.slice r hr) V -∗ WP c (k V) Q) -∗ WP c (.op (.load M r.toLoadRect hl) k) Q) := by
  unfold own1 owns
  iintro ⟨%f, %hf, H⟩ HK
  iapply (wp_load_rect 𝒱₀ (c : Thread nD τ) none Set.univ (m := M) (r := r) (S := (M.slice r hr).view.set) (f := f) (Finset.Subset.refl _)) $$ H
  iintro H
  rw [show (M.access r).read (Elt F) f = V from hf]
  iapply HK
  iexists f; isplitr; · ipureintro; exact hf
  iexact H

/-- A load of a part of an owned array reads that part. -/
theorem load_part {α : Type} {Q : α → sProp 𝕄} {hl : M.view.LoadsAt r.toLoadRect} {k : (r.shape.Idx → Elt F e) → Prog (TpuEff nD τ sig (Elt F) Λ₀ .tc) α} (V : sh.Idx → Elt F e) :
    (own1 c M V : sProp 𝕄)
      ⊢ iprop((own1 c M V -∗ WP c (k (fun i => V (r.emb i))) Q) -∗ WP c (.op (.load M r.toLoadRect hl) k) Q) := by
  unfold own1 owns
  iintro ⟨%f, %hf, H⟩ HK
  iapply (wp_load_rect 𝒱₀ (c : Thread nD τ) none Set.univ (m := M) (r := r) (S := M.view.set) (f := f) (M.view.set_slice_subset r)) $$ H
  iintro H
  rw [show (M.access r).read (Elt F) f = fun i => V (r.emb i) from by subst hf; rfl]
  iapply HK
  iexists f; isplitr; · ipureintro; exact hf
  iexact H

/-- A load whose value is not used needs only the elements. -/
theorem load_held {α : Type} {Q : α → sProp 𝕄} {hl : M.view.LoadsAt r.toLoadRect} {p : Prog (TpuEff nD τ sig (Elt F) Λ₀ .tc) α} :
    (held (F := F) c M : sProp 𝕄)
      ⊢ iprop((held (F := F) c M -∗ WP c p Q) -∗ WP c (.op (.load M r.toLoadRect hl) fun _ => p) Q) := by
  unfold held
  iintro ⟨%f, H⟩ HK
  iapply (wp_load_rect 𝒱₀ (c : Thread nD τ) none Set.univ (m := M) (r := r) (S := M.view.set) (f := f) (M.view.set_slice_subset r)) $$ H
  iintro H
  iapply HK
  iexists f; iexact H

/-- A store to an owned slice leaves the stored vector there. -/
theorem store_slice {α : Type} {Q : α → sProp 𝕄} (hr : ∀ a, r.stride a = 1) (w : r.shape.Idx → Elt F e) {hx : (M.access r).Stores Finset.univ} {hm}
    {k : PUnit → Prog (TpuEff nD τ sig (Elt F) Λ₀ .tc) α} :
    (held (F := F) c (M.slice r hr) : sProp 𝕄)
      ⊢ iprop((own1 c (M.slice r hr) w -∗ WP c (k ⟨⟩) Q) -∗ WP c (.op (.store M r w Finset.univ hx hm) k) Q) := by
  unfold held
  iintro ⟨%f, H⟩ HK
  iapply (wp_store 𝒱₀ (c : Thread nD τ) none Set.univ (m := M) (r := r) (Mk := Finset.univ) (S := (M.slice r hr).view.set) (f := f)
    (by rw [View.setOn_univ])) $$ H
  iintro H
  iapply HK
  iapply (show _ ⊢ own1 c (M.slice r hr) w from by
    have h := owns_intro (Ix := Unit) (Name := ℕ) (U := UU) (Lvl := ℕ) (c : Thread nD τ) (M.slice r hr) fullShare ((M.access r).write (Elt F) f w Finset.univ)
    rw [show (M.slice r hr).view.read (Elt F) ((M.access r).write (Elt F) f w Finset.univ) = w from View.read_write_univ _ _] at h
    exact h) $$ H

end Access

/-- A load of a slot's tile, through the slots, reads a vector that is the tile's contents reshaped. -/
theorem load_gV (p : Fin 4) (j : Fin 7) {hl : gM.view.LoadsAt (gR j p).toLoadRect} {α : Type} {Q : α → sProp 𝕄}
    {k : Vec F S1x64x256 .f32 → Prog (TpuEff nD τ sig (Elt F) Λ₀ .tc) α} (T : S64x256.Idx → Elt F .f32) :
    (own1 c (gV p j) T : sProp 𝕄)
      ⊢ iprop((∀ g : Vec F S1x64x256 .f32, ⌜shapeCast S64x256 g shapeCasts_S1x64x256_S64x256 = T⌝ -∗ own1 c (gV p j) T -∗ WP c (k g) Q)
          -∗ WP c (.op (.load gM (gR j p).toLoadRect hl) k) Q) := by
  have hset : (gV p j).view.set = (gM.slice (gR j p) (fun _ => rfl)).view.set := View.set_reshape _ _
  unfold own1 owns
  iintro ⟨%f, %hf, H⟩ HK
  iapply (wp_load_rect 𝒱₀ (c : Thread nD τ) none Set.univ (m := gM) (r := gR j p) (S := (gV p j).view.set) (f := f)
    (by rw [hset])) $$ H
  iintro H
  iapply HK
  · ipureintro
    exact hf
  · iexists f; isplitr; · ipureintro; exact hf
    iexact H

end Cert.KernelIdeal.Hand

end
-- ==== Proof.K.Steps.lean ====
/- Each step of the body, from what it needs to what it leaves. -/
module

public import proofs.«01_k».proof.Proof.K.Rules
public import Idealize.ShloMosaic.Lib.Rounds.Family

@[expose] public section

set_option maxRecDepth 65536

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The counters' records -/

/-- Every counter's invariant, and that every counter has reached its round. -/
def records (K : Dev nD × SemLoc sig → ℕ) : sProp 𝕄 :=
  iprop((bigSep Finset.univ fun ck : Dev nD × SemLoc sig => cellInv ER (Rd (F := F) m) (K ck) (cell ck.1 ck.2))
    ∗ bigSep Finset.univ fun ck : Dev nD × SemLoc sig => reached ER (cell ck.1 ck.2) 0)

instance records_persistent (K : Dev nD × SemLoc sig → ℕ) : BI.Persistent (records (F := F) m K) := by
  unfold records; infer_instance

/-- One counter's record. -/
theorem record_at (K : Dev nD × SemLoc sig → ℕ) (c : Dev nD) (s : SemLoc sig) :
    records (F := F) m K ⊢ iprop(cellInv ER (Rd (F := F) m) (K (c, s)) (cell c s) ∗ reached ER (cell c s) 0) := by
  unfold records
  exact BIClass.sep_mono (bigSep_elim (Finset.mem_univ (c, s))) (bigSep_elim (Finset.mem_univ (c, s)))

/-- A device's debts, at some waits. -/
def ow (c : Dev nD) (O : CellTallies nD τ sig Unit) : sProp 𝕄 := iprop(∃ W : Waits sig Unit, owes (c : Thread nD τ) O W)

/-- The right to pay a copy's own duty. -/
abbrev useTok (c : Dev nD) (u : Use) : sProp 𝕄 := dutyTok ER (cell c (.dma (sem u))) 0 (0 : Fin 7)
/-- A counter's round, open. -/
abbrev at0 (c : Dev nD) (s : SemLoc sig) : sProp 𝕄 := atPos ER (cell c s) 0 ∅ 0
/-- A counter's round, over. -/
abbrev at1 (c : Dev nD) (s : SemLoc sig) : sProp 𝕄 := atPos ER (cell c s) (0 + 1) ∅ 0
/-- The credit of a copy under way. -/
abbrev useCred (c : Dev nD) (u : Use) : sProp 𝕄 := cred (tallyAt (cell c (.dma (sem u))) () (useAmt u))
/-- A device's slot for its `j`-th peer. -/
abbrev slotP (c : Dev nD) (j : Fin 7) : sProp 𝕄 := bigSep Finset.univ fun p : Fin 4 => held (F := F) c (gV p j)

variable (K : Dev nD × SemLoc sig → ℕ) (c : Dev nD)

/-! ## Starting local copies -/

/-- A local copy started: it takes its source and destination, and its credit comes back. -/
theorem copy_step {sp sp' : Space} {sh : Shape} {e : EltTy} (src : Memref sig .tc sp sh e) (dst : Memref sig .tc sp' sh e) (u : Use)
    (V : sh.Idx → Elt F e) {hsrc : src.view.WordExact} {hdst : dst.view.WordExact} {hsem : DmaTarget.Typed (nD := nD) (τ := τ) (p := .tc) sp (.dma (sem u)) (.here dst)}
    (hN : dst.view.amount (.dma (sem u)) = useAmt u)
    (hpay : iprop(own1 c dst V ∗ own1 c src V) ⊢ usePay (F := F) m c u) :
    iprop(records (F := F) m K ∗ own1 c src V ∗ held (F := F) c dst ∗ useTok (F := F) c u)
      ⊢ WP c (Prog.lift (.enqueueDma src (.here dst) (.dma (sem u)) hsrc hdst hsem)) (fun _ => useCred (F := F) c u) := by
  unfold own1 owns held WP Prog.lift
  iintro ⟨#Hrec, ⟨%fs, %hfs, Hs⟩, ⟨%fd, Hd⟩, Ht⟩
  ihave Hr := (record_at m K c (.dma (sem u))) $$ Hrec
  icases Hr with ⟨#HI, #Hrc⟩
  iapply (Rounds.wp_copy_pointsTo 𝒱₀ ER (Rd (F := F) m) (c : Thread nD τ) none (κ := K (c, .dma (sem u))) (fs := fs) (fd := fd) (r := 0) (d := (0 : Fin 7))
    (mem_duties_dma m c (sem u)) () (useAmt u) hN (amount_sem m c u 0 0)
    (by
      rw [payload_sem]
      refine BIBase.Entails.trans ?_ hpay
      refine BIClass.sep_mono ?_ ?_
      · have h := owns_intro (Ix := Unit) (Name := ℕ) (U := UU) (Lvl := ℕ) (c : Thread nD τ) dst fullShare (dst.view.write (Elt F) fd (src.view.read (Elt F) fs) Finset.univ)
        rw [hfs] at h ⊢
        rw [View.read_write_univ] at h
        exact h
      · have h := owns_intro (Ix := Unit) (Name := ℕ) (U := UU) (Lvl := ℕ) (c : Thread nD τ) src fullShare fs
        rw [hfs] at h
        exact h)) $$ [Hs Hd Ht]
  · isplitr; · iexact HI
    isplitl [Hs]; · iexact Hs
    isplitl [Hd]; · iexact Hd
    isplitl [Ht]; · iexact Ht
    iexact Hrc
  iintro Hc
  simp only [wp_ret]
  imodintro
  iexact Hc

/-! ## Signals -/

/-- The signal's operation, at any name of the device signalled. -/
theorem sig_op (j : Fin 7) (n : Dev nD) (hn : n = peer j c) (O : CellTallies nD τ sig Unit) :
    iprop(records (F := F) m K ∗ ow (F := F) c (O + tallyAt (cell (peer j c) barL) () 1)
        ∗ dutyTok ER (cell (peer j c) barL) 0 j ∗ slotP (F := F) c j)
      ⊢ WP c (semSignalWord n barS 1#32) (fun _ => ow (F := F) c O) := by
  subst hn
  unfold ow WP
  simp only [semSignalWord, Prog.lift, Prog.bind_op, Prog.bind_ret, Prog.pure_eq_ret]
  iintro ⟨#Hrec, ⟨%W, HO⟩, Ht, Hs⟩
  ihave Hr := (record_at m K (peer j c) barL) $$ Hrec
  icases Hr with ⟨#HI, #Hrc⟩
  iapply (Rounds.wp_signal 𝒱₀ ER (Rd (F := F) m) (c : Thread nD τ) none (dst := (peer j c : Thread nD τ)) (κ := K (peer j c, barL))
    (r := 0) (d := j) (by rw [duties_bar]; exact Finset.mem_univ _) (show (1 : ℕ) = _ by decide) () O rfl) $$ [HO Ht Hs]
  · isplitr; · iexact HI
    isplitl [HO]; · iexact HO
    isplitl [Ht]; · iexact Ht
    isplitl [Hs]
    · rw [payload_bar]; unfold barPay; rw [peer_peer]; iexact Hs
    iexact Hrc
  iintro HO
  simp only [wp_ret]
  imodintro
  iexists W; iexact HO

/-- One signal: the device signalled gets the slot it will write. -/
theorem sig_step (k : Fin 7) (l : List (Fin 7)) :
    iprop(records (F := F) m K ∗ ow (F := F) c (owedR c pairs + owedB c (k :: l))
        ∗ (dutyTok ER (cell (peer (sj c k) c) barL) 0 (sj c k) ∗ slotP (F := F) c (sj c k)))
      ⊢ WP c (sigStep c k) (fun _ => iprop(ow (F := F) c (owedR c pairs + owedB c l) ∗ emp)) := by
  unfold sigStep
  rw [owedB_cons, ← add_assoc]
  refine (sig_op m K c (sj c k) _ (sig_peer c k) _).trans ?_
  exact wp_mono frame (wpE (defs₀ (F := F)) 𝒱₀ (c : Thread nD τ) none) Set.univ fun _ => (sep_emp (PROP := sProp 𝕄)).2

/-! ## The barrier -/

/-- The wait for the seven signals: every peer's slot comes with them. -/
theorem bar_wait :
    iprop(records (F := F) m K ∗ levAts L lv ∗ cred (tallyAt (cell c barL) () 7) ∗ ow (F := F) c (owedR c pairs) ∗ at0 (F := F) c barL)
      ⊢ WP c (semWaitWord barS 7#32) (fun _ => iprop(ow (F := F) c (owedR c pairs) ∗ at1 (F := F) c barL
          ∗ bigSep Finset.univ fun j : Fin 7 => barPay (F := F) c j)) := by
  unfold ow WP
  simp only [semWaitWord, Prog.lift, Prog.bind_op, Prog.bind_ret, Prog.pure_eq_ret]
  iintro ⟨#Hrec, #Hlev, Hc, ⟨%W, HO⟩, Hat⟩
  ihave Hr := (record_at m K c barL) $$ Hrec
  icases Hr with ⟨#HI, #Hrc⟩
  iapply (Rounds.wp_wait_rest_token 𝒱₀ ER (Rd (F := F) m) (c : Thread nD τ) none (κ := K (c, barL))
      (wpE_semWait_eq 𝒱₀ (c : Thread nD τ) none Set.univ) (Set.mem_univ _) () (O := owedR c pairs) (W := W) (R := 0) (m := 0) (T := ∅)
      (by rw [expect_bar]; decide)) $$ [Hc HO Hat]
  · isplitr; · iexact HI
    isplitl [Hc]; · iexact Hc
    isplitl [HO]; · iexact HO
    isplitr; · iapply (mayWait_bar c pairs); iexact Hlev
    iexact Hat
  iintro ⟨HO, Hat, -, Hpay⟩
  ihave Hp := (Entails.of_eq (rest_bar m c)) $$ Hpay
  simp only [wp_ret]
  imodintro
  isplitl [HO]; · iexists _; iexact HO
  isplitl [Hat] <;> iassumption

/-! ## Sends -/

/-- A tile's copy counts what a tile does, whichever its place. -/
theorem gV_amount (p : Fin 4) (j : Fin 7) : (gV p j).view.amount (.dma (sem (.recv p j))) = useAmt (.recv p j) := rfl

/-- What a send gives back at the sender. -/
theorem send_pay₁ (p : Fin 4) (j : Fin 7) (fs : Buf (Elt F) ((xV (peer j c) p).view.loc (c : Thread nD τ)))
    (hfs : (xV (peer j c) p).view.read (Elt F) fs = xT m c (peer j c) p) :
    ((xV (peer j c) p).view.loc (c : Thread nD τ) ↦[(xV (peer j c) p).view.set]{fullShare} fs : sProp 𝕄)
      ⊢ (Rd (F := F) m).payload (cell c (.dma (sem (.send p j)))) 0 0 := by
  have h := owns_intro (Ix := Unit) (Name := ℕ) (U := UU) (Lvl := ℕ) (c : Thread nD τ) (xV (peer j c) p) fullShare fs
  rw [hfs] at h
  exact h.trans (Entails.of_eq (payload_sem m c (.send p j) 0 0).symm)

/-- What a send delivers at the receiver. -/
theorem send_pay₂ (p : Fin 4) (j : Fin 7) (fs : Buf (Elt F) ((xV (peer j c) p).view.loc (c : Thread nD τ)))
    (fd : Buf (Elt F) ((gV p j).view.loc (peer j c : Thread nD τ)))
    (hfs : (xV (peer j c) p).view.read (Elt F) fs = xT m c (peer j c) p) :
    ((gV p j).view.loc (peer j c : Thread nD τ) ↦[(gV p j).view.set]{fullShare} ((gV p j).view.write (Elt F) fd ((xV (peer j c) p).view.read (Elt F) fs) Finset.univ) : sProp 𝕄)
      ⊢ (Rd (F := F) m).payload (cell (peer j c) (.dma (sem (.recv p j)))) 0 0 := by
  have h := owns_intro (Ix := Unit) (Name := ℕ) (U := UU) (Lvl := ℕ) (peer j c : Thread nD τ) (gV p j) fullShare
    ((gV p j).view.write (Elt F) fd ((xV (peer j c) p).view.read (Elt F) fs) Finset.univ)
  rw [hfs] at h ⊢
  rw [View.read_write_univ] at h
  refine h.trans (Entails.of_eq ?_)
  refine Eq.trans ?_ (payload_sem m (peer j c) (.recv p j) 0 0).symm
  show _ = own1 (peer j c) (gV p j) (xT m (peer j (peer j c)) (peer j c) p)
  rw [peer_peer]

/-- The send's operation, at any name of the device addressed and of the tile sent. -/
theorem send_op (p : Fin 4) (j : Fin 7) (n : Dev nD) (hn : n = peer j c) (src : Memref sig .tc .hbm S64x256 .f32) (hs : src = xV (peer j c) p)
    (O : CellTallies nD τ sig Unit)
    {hsc : (gV p j : Memref sig (Dev.tc n : Thread nD τ).2.kind .vmem S64x256 .f32).view.ref.isScScratch = false}
    {hsrc : src.view.WordExact} {hdst : (gV p j).view.WordExact}
    {hsem : DmaTarget.Typed .hbm (.dma (sem (.recv p j))) (.remote (Dev.tc n : Thread nD τ) (gV p j) (.dma (sem (.send p j))) hsc)} :
    iprop(records (F := F) m K ∗ ow (F := F) c (O + tallyAt (cell (peer j c) (.dma (sem (.recv p j)))) () (useAmt (.recv p j)))
        ∗ useTok (F := F) c (.send p j) ∗ useTok (F := F) (peer j c) (.recv p j)
        ∗ own1 c (xV (peer j c) p) (xT m c (peer j c) p) ∗ held (F := F) (peer j c) (gV p j))
      ⊢ WP c (Prog.lift (.enqueueDma src (.remote (Dev.tc n) (gV p j) (.dma (sem (.send p j))) hsc) (.dma (sem (.recv p j))) hsrc hdst hsem))
          (fun _ => iprop(ow (F := F) c O ∗ useCred (F := F) c (.send p j))) := by
  subst hn
  subst hs
  unfold own1 owns held WP Prog.lift ow
  iintro ⟨#Hrec, ⟨%W, HO⟩, Ht, Ht', ⟨%fs, %hfs, Hs⟩, ⟨%fd, Hd⟩⟩
  ihave Hr := (record_at m K c (.dma (sem (.send p j)))) $$ Hrec
  icases Hr with ⟨#HI, #Hrc⟩
  ihave Hr := (record_at m K (peer j c) (.dma (sem (.recv p j)))) $$ Hrec
  icases Hr with ⟨#HI', #Hrc'⟩
  iapply (Rounds.wp_send_pointsTo 𝒱₀ ER (Rd (F := F) m) (c : Thread nD τ) none (κ₁ := K (c, .dma (sem (.send p j)))) (κ₂ := K (peer j c, .dma (sem (.recv p j))))
    (c' := (peer j c : Thread nD τ)) (src := xV (peer j c) p) (dst := gV p j) (q := fullShare) (sS := .dma (sem (.send p j))) (sem := .dma (sem (.recv p j)))
    (fs := fs) (fd := fd) (r₁ := 0) (r₂ := 0) (d₁ := (0 : Fin 7)) (d₂ := (0 : Fin 7))
    (mem_duties_dma m c (sem (.send p j))) (mem_duties_dma m (peer j c) (sem (.recv p j))) () () (useAmt (.recv p j)) (gV_amount p j)
    (amount_sem m c (.send p j) 0 0) (amount_sem m (peer j c) (.recv p j) 0 0) O rfl (W := W)
    (send_pay₁ m c p j fs hfs) (send_pay₂ m c p j fs fd hfs)) $$ [HO Ht Ht' Hs Hd]
  · isplitr; · iexact HI
    isplitr; · iexact HI'
    isplitl [Hs]; · iexact Hs
    isplitl [Hd]; · iexact Hd
    isplitl [HO]; · iexact HO
    isplitl [Ht]; · iexact Ht
    isplitr; · iexact Hrc
    isplitl [Ht']; · iexact Ht'
    iexact Hrc'
  iintro ⟨Hc, HO⟩
  simp only [wp_ret]
  imodintro
  isplitl [HO]
  · iexists W; iexact HO
  iexact Hc

/-- One tile sent. -/
theorem send_step (pj : Fin 4 × Fin 7) (l : List (Fin 4 × Fin 7)) :
    iprop(records (F := F) m K ∗ ow (F := F) c (owedR c (pj :: l))
        ∗ (useTok (F := F) c (.send pj.1 pj.2) ∗ useTok (F := F) (peer pj.2 c) (.recv pj.1 pj.2)
          ∗ own1 c (xV (peer pj.2 c) pj.1) (xT m c (peer pj.2 c) pj.1) ∗ held (F := F) (peer pj.2 c) (gV pj.1 pj.2)))
      ⊢ WP c (sendStep c pj) (fun _ => iprop(ow (F := F) c (owedR c l) ∗ useCred (F := F) c (.send pj.1 pj.2))) := by
  unfold sendStep
  rw [owedR_cons]
  exact send_op m K c pj.1 pj.2 _ (dev_peer c pj.2) _ (srcV_eq c pj.1 pj.2) _

/-! ## Waits -/

/-- A wait for a copy: what the copy delivers comes with it. -/
theorem wait_op (u : Use) {sp sp' : Space} {sh : Shape} {e : EltTy} (src : Memref sig .tc sp sh e) (dst : Memref sig .tc sp' sh e)
    {hsrc : src.view.WordExact} {hdst : dst.view.WordExact} (hN : dst.view.dmaCredit = useAmt u)
    {α : Type} {Q : α → sProp 𝕄} {k : PUnit → Prog (TpuEff nD τ sig (Elt F) Λ₀ .tc) α} :
    iprop(records (F := F) m K ∗ useCred (F := F) c u ∗ ow (F := F) c 0 ∗ at0 (F := F) c (.dma (sem u)))
      ⊢ iprop((iprop(ow (F := F) c 0 ∗ at1 (F := F) c (.dma (sem u)) ∗ usePay (F := F) m c u) -∗ WP c (k ⟨⟩) Q)
          -∗ WP c (.op (.waitDma2 (sem u) src dst hsrc hdst) k) Q) := by
  unfold ow WP useCred
  rw [← hN]
  iintro ⟨#Hrec, Hc, ⟨%W, HO⟩, Hat⟩ HK
  ihave Hr := (record_at m K c (.dma (sem u))) $$ Hrec
  icases Hr with ⟨#HI, #Hrc⟩
  iapply (Rounds.wp_wait_rest_token 𝒱₀ ER (Rd (F := F) m) (c : Thread nD τ) none (κ := K (c, .dma (sem u)))
      (wpE_waitDma2_eq 𝒱₀ (c : Thread nD τ) none Set.univ) (Set.mem_univ _) () (O := 0) (W := W) (R := 0) (m := 0) (T := ∅)
      (by rw [Nat.zero_add, expect_sem, hN])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_sem m c u)) $$ Hpay
  iapply HK
  isplitl [HO]; · iexists _; iexact HO
  isplitl [Hat] <;> iassumption

/-- A wait alone. -/
theorem wait_step (u : Use) {sp sp' : Space} {sh : Shape} {e : EltTy} (src : Memref sig .tc sp sh e) (dst : Memref sig .tc sp' sh e)
    {hsrc : src.view.WordExact} {hdst : dst.view.WordExact} (hN : dst.view.dmaCredit = useAmt u) :
    iprop(records (F := F) m K ∗ ow (F := F) c 0 ∗ (useCred (F := F) c u ∗ at0 (F := F) c (.dma (sem u))))
      ⊢ WP c (Prog.lift (.waitDma2 (sem u) src dst hsrc hdst))
          (fun _ => iprop(ow (F := F) c 0 ∗ (at1 (F := F) c (.dma (sem u)) ∗ usePay (F := F) m c u))) := by
  iintro ⟨#Hrec, HO, Hc, Hat⟩
  unfold Prog.lift
  iapply (wait_op m K c u src dst hN) $$ [HO Hc Hat]
  · isplitr; · iexact Hrec
    isplitl [Hc]; · iexact Hc
    isplitl [HO] <;> iassumption
  iintro H
  unfold WP
  simp only [wp_ret]
  imodintro
  iexact H

/-! ## The products -/

/-- The staged weights at a printed offset that is a device's first row. -/
theorem wv_part (o : Fin 2 → Nat) (h : ∀ a, o a + S256x2048.size a ≤ S2048x2048.size a) (e : Dev nD) (he : o = ![256 * e.val, 0]) :
    (fun i => Wt m c ((Rect.unit (s := S2048x2048) o S256x2048.size h).emb i)) = wB m c e := by
  subst he; rfl

/-- An index of a whole array read through its whole rectangle. -/
theorem emb_whole (s : Shape) (h : s.rank = 2) (o : Fin s.rank → Nat) (ho : ∀ a, o a = 0) (hb : ∀ a, o a + s.size a ≤ s.size a) (i : s.Idx) :
    (Rect.unit (s := s) o s.size hb).emb i = i := by
  funext a; apply Fin.ext
  show o a + 1 * (i a).val = _
  rw [ho a, Nat.zero_add, Nat.one_mul]

/-- The own rows' product into the whole accumulator. -/
theorem own_step :
    iprop(own1 c wvM (Wt m c) ∗ own1 c xlM (xO m c) ∗ held (F := F) c accM)
      ⊢ WP c (ownStep c) (fun _ => iprop(own1 c wvM (Wt m c) ∗ own1 c xlM (xO m c) ∗ own1 c accM (acc0 m c))) := by
  iintro ⟨Hw, Hx, Ha⟩
  unfold ownStep
  simp only [Prog.lift, Prog.bind_op, Prog.bind_ret, Prog.pure_eq_ret]
  iapply (load_part c wvM (Rect.unit (s := S2048x2048) (k0_off3 c) S256x2048.size (k0_off3_inb c)) (Wt m c)) $$ Hw
  iintro Hw
  rw [wv_part m c (k0_off3 c) (k0_off3_inb c) c (off3_eq c)]
  iapply (load_part c xlM (Rect.unit (s := S256x256) ![0, 0] S256x256.size inb_S256x256_S256x256_0_0) (xO m c)) $$ Hx
  iintro Hx
  rw [show (fun i => xO m c ((Rect.unit (s := S256x256) ![0, 0] S256x256.size inb_S256x256_S256x256_0_0).emb i)) = xO m c from
    funext fun i => congrArg (xO m c) (emb_whole S256x256 rfl ![0, 0] (fun a => by fin_cases a <;> rfl) _ i)]
  iapply (load_held c accM (Rect.unit (s := S256x2048) ![0, 0] S256x2048.size inb_S256x2048_S256x2048_0_0)) $$ Ha
  iintro Ha
  unfold held
  icases Ha with ⟨%f, Ha⟩
  unfold WP
  iapply (wp_store 𝒱₀ (c : Thread nD τ) none Set.univ (m := accM)
    (r := Rect.unit (s := S256x2048) ![0, 0] S256x2048.size inb_S256x2048_S256x2048_0_0) (Mk := Finset.univ) (S := accM.view.set) (f := f)
    (by rw [View.setOn_univ]; exact accM.view.set_slice_subset _)) $$ Ha
  iintro Ha
  simp only [wp_ret]
  imodintro
  isplitl [Hw]; · iexact Hw
  isplitl [Hx]; · iexact Hx
  have hw : (accM.access (Rect.unit (s := S256x2048) ![0, 0] S256x2048.size inb_S256x2048_S256x2048_0_0)).write (Elt F) f (k0_pay1 (wB m c c) (xO m c)) Finset.univ
      = acc0 m c :=
    Memref.write_access_unit_zero_univ (Elt F) cc0_scratch0 (off := (![0, 0] : Fin 2 → Nat)) (funext fun a => by fin_cases a <;> rfl) _ f _
  rw [hw]
  unfold own1
  iapply (owns_intro (c : Thread nD τ) accM fullShare _) $$ Ha

/-- One peer's tile waited for, and its product added. -/
theorem recv_step (p : Fin 4) (j : Fin 7) (l : List (Fin 7)) :
    iprop(records (F := F) m K
        ∗ (∃ a, ⌜(j :: l).foldl (addP m c p) a = accE m c p⌝ ∗ own1 c (accV p) a ∗ own1 c wvM (Wt m c) ∗ ow (F := F) c 0)
        ∗ (useCred (F := F) c (.recv p j) ∗ at0 (F := F) c (.dma (sem (.recv p j)))))
      ⊢ WP c (recvStep c p j) (fun _ => iprop(
          (∃ a, ⌜l.foldl (addP m c p) a = accE m c p⌝ ∗ own1 c (accV p) a ∗ own1 c wvM (Wt m c) ∗ ow (F := F) c 0)
          ∗ (at1 (F := F) c (.dma (sem (.recv p j))) ∗ own1 c (gV p j) (gT m c p j)))) := by
  iintro ⟨#Hrec, ⟨%a, %ha, Ha, Hw, HO⟩, Hc, Hat⟩
  unfold recvStep
  simp only [Prog.lift, Prog.bind_op, Prog.bind_ret, Prog.pure_eq_ret]
  iapply (wait_op m K c (.recv p j) (srcV c p j) (gV p j) rfl) $$ [HO Hc Hat]
  · isplitr; · iexact Hrec
    isplitl [Hc]; · iexact Hc
    isplitl [HO] <;> iassumption
  iintro ⟨HO, Hat, Hg⟩
  iapply (load_part c wvM (Rect.unit (s := S2048x2048) (k0_off4 c (wz j) (wy j) (wx j)) S256x2048.size (off4_inb c j)) (Wt m c)) $$ Hw
  iintro Hw
  rw [wv_part m c _ (off4_inb c j) (peer j c) (off4_eq c j)]
  iapply (load_slice c accM (aR p) (fun _ => rfl) a) $$ Ha
  iintro Ha
  ihave Hg := (Entails.of_eq (show usePay (F := F) m c (.recv p j) = own1 c (gV p j) (gT m c p j) from rfl)) $$ Hg
  iapply (load_gV c p j (gT m c p j)) $$ Hg
  iintro %g %hg Hg
  iapply (load_slice c accM (aR p) (fun _ => rfl) a) $$ Ha
  iintro Ha
  iapply (store_slice c accM (aR p) (fun _ => rfl) (k0_pay4 (wB m c (peer j c)) a g)) $$ [Ha]
  · iapply (held_of_own c (accV p) a) $$ Ha
  iintro Ha
  unfold WP
  simp only [wp_ret]
  imodintro
  isplitl [Ha Hw HO]
  · iexists (k0_pay4 (wB m c (peer j c)) a g)
    isplitr
    · ipureintro
      rw [pay4_eq, hg]
      exact ha
    isplitl [Ha]; · iexact Ha
    isplitl [Hw] <;> iassumption
  isplitl [Hat] <;> iassumption

/-- The activation function applied to a tile, and its copy to the result started. -/
theorem epi_step (p : Fin 4) :
    iprop(records (F := F) m K ∗ own1 c (accV p) (accE m c p) ∗ held (F := F) c (outV p) ∗ useTok (F := F) c (.out p))
      ⊢ WP c (epiStep p) (fun _ => useCred (F := F) c (.out p)) := by
  iintro ⟨#Hrec, Ha, Ho, Ht⟩
  unfold epiStep
  simp only [Prog.lift, Prog.bind_op, Prog.bind_ret, Prog.pure_eq_ret]
  iapply (load_slice c accM (aR p) (fun _ => rfl) (accE m c p)) $$ Ha
  iintro Ha
  iapply (load_slice c accM (aR p) (fun _ => rfl) (accE m c p)) $$ Ha
  iintro Ha
  iapply (store_slice c accM (aR p) (fun _ => rfl) (k0_pay11 (accE m c p))) $$ [Ha]
  · iapply (held_of_own c (accV p) (accE m c p)) $$ Ha
  iintro Ha
  have h := copy_step (F := F) m K c (accV p) (outV p) (.out p) (oT m c p) (hsrc := View.wordExact_bits rfl) (hdst := View.wordExact_bits rfl)
    (hsem := ⟨Or.inl rfl, trivial⟩) rfl (BIClass.sep_mono (Entails.refl _) (held_of_own c (accV p) (oT m c p)))
  unfold Prog.lift at h
  iapply h
  isplitr; · iexact Hrec
  isplitl [Ha]; · iexact Ha
  isplitl [Ho] <;> iassumption

/-- One tile: seven peers, then the activation function. -/
theorem tile_step (p : Fin 4) (l : List (Fin 4)) :
    iprop(records (F := F) m K ∗ (own1 c wvM (Wt m c) ∗ ow (F := F) c 0)
        ∗ (own1 c (accV p) (accP m c p) ∗ held (F := F) c (outV p) ∗ useTok (F := F) c (.out p)
          ∗ bigSepL order fun j => iprop(useCred (F := F) c (.recv p j) ∗ at0 (F := F) c (.dma (sem (.recv p j))))))
      ⊢ WP c (tileStep c p) (fun _ => iprop((own1 c wvM (Wt m c) ∗ ow (F := F) c 0)
        ∗ (useCred (F := F) c (.out p) ∗ bigSepL order fun j => iprop(at1 (F := F) c (.dma (sem (.recv p j))) ∗ own1 c (gV p j) (gT m c p j))))) := by
  iintro ⟨#Hrec, ⟨Hw, HO⟩, Ha, Ho, Ht, Hl⟩
  unfold tileStep
  iapply (wp_then c (wp_seqL c (records (F := F) m K) (recvStep c p)
    (fun l => iprop(∃ a, ⌜l.foldl (addP m c p) a = accE m c p⌝ ∗ own1 c (accV p) a ∗ own1 c wvM (Wt m c) ∗ ow (F := F) c 0))
    (fun j => iprop(useCred (F := F) c (.recv p j) ∗ at0 (F := F) c (.dma (sem (.recv p j)))))
    (fun j => iprop(at1 (F := F) c (.dma (sem (.recv p j))) ∗ own1 c (gV p j) (gT m c p j)))
    (recv_step m K c p) order)) $$ [Hw HO Ha Hl]
  · isplitr; · iexact Hrec
    isplitl [Hw HO Ha]
    · iexists (accP m c p)
      isplitr; · ipureintro; rfl
      isplitl [Ha]; · iexact Ha
      isplitl [Hw] <;> iassumption
    iexact Hl
  iintro ⟨⟨%a, %ha, Ha, Hw, HO⟩, Hl⟩
  rw [List.foldl_nil] at ha
  subst ha
  iapply (wp_last c (epi_step m K c p)) $$ [Ha Ho Ht]
  · isplitr; · iexact Hrec
    isplitl [Ha]; · iexact Ha
    isplitl [Ho] <;> iassumption
  iintro Hc
  isplitl [Hw HO]
  · isplitl [Hw] <;> iassumption
  isplitl [Hc] <;> iassumption

end Cert.KernelIdeal.Hand

end
-- ==== Proof.K.Body.lean ====
/- The whole body, from the launch's pieces to the pieces it leaves. -/
module

public import proofs.«01_k».proof.Proof.K.Steps

@[expose] public section

set_option maxRecDepth 65536

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## Families over lists -/

section Lists
variable {I : Type}

/-- A family of pairs is a pair of families. -/
theorem bigSepL_both (l : List I) (A B : I → sProp 𝕄) : bigSepL l (fun i => iprop(A i ∗ B i)) = iprop(bigSepL l A ∗ bigSepL l B) := by
  induction l with
  | nil => exact (equiv_iff.mp emp_sep).symm
  | cons a l ih =>
    rw [bigSepL_cons', bigSepL_cons', bigSepL_cons', ih]
    refine equiv_iff.mp ⟨show iprop((A a ∗ B a) ∗ bigSepL l A ∗ bigSepL l B) ⊢ iprop((A a ∗ bigSepL l A) ∗ B a ∗ bigSepL l B) from ?_,
      show iprop((A a ∗ bigSepL l A) ∗ B a ∗ bigSepL l B) ⊢ iprop((A a ∗ B a) ∗ bigSepL l A ∗ bigSepL l B) from ?_⟩
    · iintro ⟨⟨H1, H2⟩, H3, H4⟩
      isplitl [H1 H3]
      · isplitl [H1] <;> iassumption
      isplitl [H2] <;> iassumption
    · iintro ⟨⟨H1, H3⟩, H2, H4⟩
      isplitl [H1 H2]
      · isplitl [H1] <;> iassumption
      isplitl [H3] <;> iassumption

/-- A family over pairs, tile by tile in the order of the waits. -/
theorem pairs_tiles (A : Fin 4 × Fin 7 → sProp 𝕄) : bigSepL pairs A = bigSepL tiles fun p => bigSepL order fun j => A (p, j) := by
  rw [← bigSep_pairs, bigSep_univ_prod, bigSep_tiles]
  simp only [bigSep_order]

/-- A family over slots and tiles, as one over pairs. -/
theorem pairs_slots (A : Fin 7 → Fin 4 → sProp 𝕄) :
    (bigSep Finset.univ fun j : Fin 7 => bigSep Finset.univ fun p : Fin 4 => A j p) = bigSepL pairs fun pj => A pj.2 pj.1 := by
  rw [← bigSep_pairs, bigSep_univ_equiv (Equiv.prodComm (Fin 7) (Fin 4)) (fun pj : Fin 4 × Fin 7 => A pj.2 pj.1), bigSep_univ_prod]
  rfl

/-- A family over slots, in the order of the signals. -/
theorem slots_sj (c : Dev nD) (A : Fin 7 → sProp 𝕄) : bigSepL slots A = bigSepL slots fun k => A (sj c k) := by
  rw [← bigSep_slots, bigSep_univ_equiv (Equiv.ofBijective (sj c) (Finite.injective_iff_bijective.mp (sj_inj c))) A, bigSep_slots]
  rfl

/-- Every counter of a core that the kernel uses. -/
def useList : List Use :=
  pairs.map (fun pj => Use.send pj.1 pj.2) ++ (pairs.map (fun pj => Use.recv pj.1 pj.2) ++ (tiles.map Use.out ++ [Use.w, Use.x]))
def semList : List (SemLoc sig) := barL :: useList.map fun u => .dma (sem u)

set_option maxHeartbeats 4000000 in
theorem semList_all : (Finset.univ : Finset (SemLoc sig)) = semList.toFinset := by decide +kernel
set_option maxHeartbeats 4000000 in
theorem semList_nodup : semList.Nodup := by decide +kernel

/-- A family over a core's counters, use by use. -/
theorem sems_eq (A : SemLoc sig → sProp 𝕄) :
    bigSep Finset.univ A = iprop(A barL ∗ (bigSepL pairs fun pj => A (.dma (sem (.send pj.1 pj.2))))
      ∗ (bigSepL pairs fun pj => A (.dma (sem (.recv pj.1 pj.2)))) ∗ (bigSepL tiles fun p => A (.dma (sem (.out p))))
      ∗ A (.dma (sem .w)) ∗ A (.dma (sem .x))) := by
  rw [bigSep_univ_eq_bigSepL semList semList_all semList_nodup]
  unfold semList useList
  rw [bigSepL_cons', bigSepL_map, bigSepL_append, bigSepL_append, bigSepL_append, bigSepL_map, bigSepL_map, bigSepL_map]
  rfl

end Lists

variable (K : Dev nD × SemLoc sig → ℕ) (c : Dev nD)

/-- The duties a device pays. -/
def toks : sProp 𝕄 :=
  iprop((bigSepL slots fun k => dutyTok ER (cell (peer (sj c k) c) barL) 0 (sj c k))
    ∗ (bigSepL pairs fun pj => useTok (F := F) c (.send pj.1 pj.2))
    ∗ (bigSepL pairs fun pj => useTok (F := F) (peer pj.2 c) (.recv pj.1 pj.2))
    ∗ (bigSepL tiles fun p => useTok (F := F) c (.out p)) ∗ useTok (F := F) c .w ∗ useTok (F := F) c .x)

/-- The credits a device starts with: its barrier's seven signals and its slots' tiles. -/
def creds : sProp 𝕄 :=
  iprop(cred (tallyAt (cell c barL) () 7) ∗ bigSepL pairs fun pj => useCred (F := F) c (.recv pj.1 pj.2))

/-- The scratch buffers of the body. -/
def scr : sProp 𝕄 :=
  iprop(held (F := F) c accM ∗ held (F := F) c wvM ∗ held (F := F) c xlM ∗ held (F := F) c gM)

/-- What the body starts from. -/
def pre : sProp 𝕄 :=
  iprop((own1 c xM (X m c) ∗ own1 c wM (Wt m c) ∗ held (F := F) c outM) ∗ scr (F := F) c
    ∗ (bigSep Finset.univ fun s => at0 (F := F) c s) ∗ toks (F := F) c ∗ creds (F := F) c ∗ ow (F := F) c (O₀ c))

/-- What the body leaves. -/
def post : sProp 𝕄 :=
  iprop((own1 c xM (X m c) ∗ own1 c wM (Wt m c) ∗ own1 c outM (outW m c)) ∗ scr (F := F) c
    ∗ (bigSep Finset.univ fun s => semVal (cell c s) 0) ∗ ow (F := F) c 0)

/-- Every counter of the core at its round's end closes at zero. -/
theorem close_all :
    iprop(records (F := F) m K ∗ bigSep Finset.univ fun s => at1 (F := F) c s)
      ⊢ (|={Set.univ}=> bigSep Finset.univ fun s => semVal (cell c s) 0 : sProp 𝕄) := by
  refine BIBase.Entails.trans ?_ (Rounds.cells_close (E := ER) (Rd := Rd (F := F) m) Finset.univ (fun s => cell c s) (fun s => K (c, s))
    (fun _ _ => Set.mem_univ _) (fun _ _ h => h) (fun _ => 0 + 1) (fun s _ r hr => duties_later m (cell c s) r hr))
  rw [bigSep_sep']
  refine BIClass.sep_mono ?_ BIBase.Entails.rfl
  exact bigSep_intro_persistent fun s _ => show records (F := F) m K ⊢ cellInv ER (Rd (F := F) m) (K (c, s)) (cell c s) from by
    iintro H
    ihave H := (record_at m K c s) $$ H
    icases H with ⟨H, -⟩
    iexact H

/-- The whole body. -/
theorem run :
    iprop(records (F := F) m K ∗ levAts L lv ∗ pre m c) ⊢ WP c (progAt c) (fun _ => post m c) := by
  unfold pre scr toks creds
  iintro ⟨#Hrec, #Hlev, ⟨Hx, Hw, Ho⟩, ⟨Ha, Hwv, Hxl, Hg⟩, Hat, ⟨HtB, HtS, HtR, HtO, HtW, HtX⟩, ⟨HcB, HcR⟩, HO⟩
  ihave Hx := (x_split m c) $$ Hx
  icases Hx with ⟨Hown, Hsrc⟩
  ihave Ho := (out_split c) $$ Ho
  ihave Hg := (g_split c) $$ Hg
  ihave Hat := (Entails.of_eq (sems_eq fun s => at0 (F := F) c s)) $$ Hat
  icases Hat with ⟨HaB, HaS, HaR, HaO, HaW, HaX⟩
  unfold progAt
  -- the fetch of the weights
  iapply (wp_then c (copy_step (F := F) m K c wM wvM .w (Wt m c) rfl BIBase.Entails.rfl)) $$ [Hw Hwv HtW]
  · isplitr; · iexact Hrec
    isplitl [Hw]; · iexact Hw
    isplitl [Hwv] <;> iassumption
  iintro HcW
  -- the fetch of the own rows
  ihave Hown := (Entails.of_eq (show (own1 c (xlV c) (xO m c) : sProp 𝕄) = own1 c (ownV c) (xO m c) by rw [ownV_eq])) $$ Hown
  iapply (wp_then c (copy_step (F := F) m K c (ownV c) xlM .x (xO m c) rfl
    (by rw [ownV_eq]; exact BIBase.Entails.rfl))) $$ [Hown Hxl HtX]
  · isplitr; · iexact Hrec
    isplitl [Hown]; · iexact Hown
    isplitl [Hxl] <;> iassumption
  iintro HcX
  -- the signals
  ihave Hg := (Entails.of_eq (slots_sj c fun j => slotP (F := F) c j)) $$ Hg
  iapply (wp_then c (wp_seqL c (records (F := F) m K) (sigStep c) (fun l => ow (F := F) c (owedR c pairs + owedB c l))
    (fun k => iprop(dutyTok ER (cell (peer (sj c k) c) barL) 0 (sj c k) ∗ slotP (F := F) c (sj c k))) (fun _ => iprop(emp))
    (sig_step m K c) slots)) $$ [HO HtB Hg]
  · isplitr; · iexact Hrec
    isplitl [HO]; · iexact HO
    rw [bigSepL_both]
    isplitl [HtB] <;> iassumption
  iintro ⟨HO, -⟩
  rw [owedB_nil, add_zero]
  -- the barrier
  iapply (wp_then c (bar_wait m K c)) $$ [HO HcB HaB]
  · isplitr; · iexact Hrec
    isplitr; · iexact Hlev
    isplitl [HcB]; · iexact HcB
    isplitl [HO] <;> iassumption
  iintro ⟨HO, HaB, Hpeer⟩
  unfold barPay
  ihave Hpeer := (Entails.of_eq (pairs_slots fun j p => held (F := F) (peer j c) (gV p j))) $$ Hpeer
  -- the sends
  iapply (wp_then c (wp_seqL c (records (F := F) m K) (sendStep c) (fun l => ow (F := F) c (owedR c l))
    (fun pj => iprop(useTok (F := F) c (.send pj.1 pj.2) ∗ useTok (F := F) (peer pj.2 c) (.recv pj.1 pj.2)
          ∗ own1 c (xV (peer pj.2 c) pj.1) (xT m c (peer pj.2 c) pj.1) ∗ held (F := F) (peer pj.2 c) (gV pj.1 pj.2)))
    (fun pj => useCred (F := F) c (.send pj.1 pj.2)) (send_step m K c) pairs)) $$ [HO HtS HtR Hsrc Hpeer]
  · isplitr; · iexact Hrec
    isplitl [HO]; · iexact HO
    rw [bigSepL_both, bigSepL_both, bigSepL_both]
    isplitl [HtS]; · iexact HtS
    isplitl [HtR]; · iexact HtR
    isplitl [Hsrc] <;> iassumption
  iintro ⟨HO, HcS⟩
  rw [owedR_nil]
  -- the fetches' waits
  iapply (wp_then c (wait_step (F := F) m K c .w wM wvM rfl)) $$ [HO HcW HaW]
  · isplitr; · iexact Hrec
    isplitl [HO]; · iexact HO
    isplitl [HcW] <;> iassumption
  iintro ⟨HO, HaW, HpW⟩
  iapply (wp_then c (wait_step (F := F) m K c .x (ownV c) xlM rfl)) $$ [HO HcX HaX]
  · isplitr; · iexact Hrec
    isplitl [HO]; · iexact HO
    isplitl [HcX] <;> iassumption
  iintro ⟨HO, HaX, HpX⟩
  ihave HpW := (Entails.of_eq (show usePay (F := F) m c .w = iprop(own1 c wvM (Wt m c) ∗ own1 c wM (Wt m c)) from rfl)) $$ HpW
  ihave HpX := (Entails.of_eq (show usePay (F := F) m c .x = iprop(own1 c xlM (xO m c) ∗ own1 c (xlV c) (xO m c)) from rfl)) $$ HpX
  icases HpW with ⟨Hwv, Hw⟩
  icases HpX with ⟨Hxl, Hown⟩
  -- the own rows' product
  iapply (wp_then c (own_step m c)) $$ [Hwv Hxl Ha]
  · isplitl [Hwv]; · iexact Hwv
    isplitl [Hxl] <;> iassumption
  iintro ⟨Hwv, Hxl, Ha⟩
  ihave Ha := (acc_split c (acc0 m c)) $$ Ha
  -- the tiles
  iapply (wp_then c (wp_seqL c (records (F := F) m K) (tileStep c) (fun _ => iprop(own1 c wvM (Wt m c) ∗ ow (F := F) c 0))
    (fun p => iprop(own1 c (accV p) (accP m c p) ∗ held (F := F) c (outV p) ∗ useTok (F := F) c (.out p)
          ∗ bigSepL order fun j => iprop(useCred (F := F) c (.recv p j) ∗ at0 (F := F) c (.dma (sem (.recv p j))))))
    (fun p => iprop(useCred (F := F) c (.out p) ∗ bigSepL order fun j => iprop(at1 (F := F) c (.dma (sem (.recv p j))) ∗ own1 c (gV p j) (gT m c p j))))
    (tile_step m K c) tiles)) $$ [Hwv HO Ha Ho HtO HcR HaR]
  · isplitr; · iexact Hrec
    isplitl [Hwv HO]
    · isplitl [Hwv] <;> iassumption
    rw [bigSepL_both, bigSepL_both, bigSepL_both]
    isplitl [Ha]; · iexact Ha
    isplitl [Ho]; · iexact Ho
    isplitl [HtO]; · iexact HtO
    rw [← pairs_tiles (F := F) fun pj => iprop(useCred (F := F) c (.recv pj.1 pj.2) ∗ at0 (F := F) c (.dma (sem (.recv pj.1 pj.2)))), bigSepL_both]
    isplitl [HcR] <;> iassumption
  rw [bigSepL_both, ← pairs_tiles (F := F) fun pj => iprop(at1 (F := F) c (.dma (sem (.recv pj.1 pj.2))) ∗ own1 c (gV pj.1 pj.2) (gT m c pj.1 pj.2)), bigSepL_both]
  iintro ⟨⟨Hwv, HO⟩, HcO, HaR, Hg⟩
  -- the write-backs' waits
  iapply (wp_then c (wp_seqL c (records (F := F) m K) (outWait) (fun _ => ow (F := F) c 0)
    (fun p => iprop(useCred (F := F) c (.out p) ∗ at0 (F := F) c (.dma (sem (.out p)))))
    (fun p => iprop(at1 (F := F) c (.dma (sem (.out p))) ∗ usePay (F := F) m c (.out p)))
    (fun p _ => wait_step (F := F) m K c (.out p) (accV p) (outV p) rfl) tiles)) $$ [HO HcO HaO]
  · isplitr; · iexact Hrec
    isplitl [HO]; · iexact HO
    rw [bigSepL_both]
    isplitl [HcO] <;> iassumption
  rw [bigSepL_both]
  iintro ⟨HO, HaO, HpO⟩
  -- the sends' waits
  unfold WP
  iapply (wp_fupd frame (wpE (defs₀ (F := F)) 𝒱₀ (c : Thread nD τ) none) Set.univ)
  iapply (wp_last c (wp_seqL c (records (F := F) m K) (sendWait c) (fun _ => ow (F := F) c 0)
    (fun pj => iprop(useCred (F := F) c (.send pj.1 pj.2) ∗ at0 (F := F) c (.dma (sem (.send pj.1 pj.2)))))
    (fun pj => iprop(at1 (F := F) c (.dma (sem (.send pj.1 pj.2))) ∗ usePay (F := F) m c (.send pj.1 pj.2)))
    (fun pj _ => wait_step (F := F) m K c (.send pj.1 pj.2) (gV pj.1 pj.2) (srcV c pj.1 pj.2) rfl) pairs)) $$ [HO HcS HaS]
  · isplitr; · iexact Hrec
    isplitl [HO]; · iexact HO
    rw [bigSepL_both]
    isplitl [HcS] <;> iassumption
  rw [bigSepL_both]
  iintro ⟨HO, HaS, HpS⟩
  imod (close_all m K c) $$ [HaB HaS HaR HaO HaW HaX] with Hz
  · isplitr; · iexact Hrec
    rw [sems_eq]
    isplitl [HaB]; · iexact HaB
    isplitl [HaS]; · iexact HaS
    isplitl [HaR]; · iexact HaR
    isplitl [HaO]; · iexact HaO
    isplitl [HaW] <;> iassumption
  imodintro
  ihave HpO := (Entails.of_eq (show (bigSepL tiles fun p => usePay (F := F) m c (.out p))
    = iprop((bigSepL tiles fun p => own1 c (outV p) (oT m c p)) ∗ bigSepL tiles fun p => held (F := F) c (accV p)) from
      bigSepL_both tiles _ _)) $$ HpO
  icases HpO with ⟨Ho, Ha⟩
  unfold post scr
  isplitl [Hown HpS Hw Ho]
  · isplitl [Hown HpS]
    · iapply (x_join m c)
      isplitl [Hown]; · iexact Hown
      iexact HpS
    isplitl [Hw]; · iexact Hw
    iapply (out_join m c) $$ Ho
  isplitl [Ha Hwv Hxl Hg]
  · isplitl [Ha]; · iapply (acc_join c) $$ Ha
    isplitl [Hwv]; · iapply (held_of_own c wvM (Wt m c)) $$ Hwv
    isplitl [Hxl]; · iapply (held_of_own c xlM (xO m c)) $$ Hxl
    iapply (g_join c)
    rw [bigSep_pairs]
    iapply (bigSepL_mono fun pj _ => held_of_own c (gV pj.1 pj.2) (gT m c pj.1 pj.2)) $$ Hg
  isplitl [Hz]; · iexact Hz
  iexact HO

end Cert.KernelIdeal.Hand

end
-- ==== Proof.K.Ghost.lean ====
/- How the launch's resources are dealt: the counters' rounds opened once for the machine, every duty's right given to the
   device that pays it, and each device's credits. -/
module

public import proofs.«01_k».proof.Proof.K.Body
public import Idealize.ShloMosaic.Lib.Pipeline.Launch
public import Idealize.ShloMosaic.Lib.Pipeline.Kit

@[expose] public section

set_option maxRecDepth 65536

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The counters and the rights minted -/

/-- Every counter of every core. -/
def cellOn (cs : Dev nD × SemLoc sig) : GSem nD τ sig := cell cs.1 cs.2
theorem cellOn_inj : Function.Injective cellOn := fun a b h =>
  Prod.ext (congrArg (fun g : GSem nD τ sig => g.1.1) h) (congrArg (fun g : GSem nD τ sig => g.2) h)
def allCells : Finset (GSem nD τ sig) := Finset.univ.map ⟨cellOn, cellOn_inj⟩

/-- Every duty number's right at every counter. -/
def rightOn (x : Dev nD × SemLoc sig × Fin 7) : GSem nD τ sig × ℕ × Fin 7 := (cell x.1 x.2.1, 0, x.2.2)
theorem rightOn_inj : Function.Injective rightOn := fun a b h =>
  Prod.ext (congrArg (fun g : GSem nD τ sig × ℕ × Fin 7 => g.1.1.1) h)
    (Prod.ext (congrArg (fun g : GSem nD τ sig × ℕ × Fin 7 => g.1.2) h) (congrArg (fun g : GSem nD τ sig × ℕ × Fin 7 => g.2.2) h))
def allRights : Finset (GSem nD τ sig × ℕ × Fin 7) := Finset.univ.map ⟨rightOn, rightOn_inj⟩

/-- The launch's element: the pipeline's share and the rounds'. -/
def u₀ : UU := (initOf (Pipeline.cells cfgs cellOf_inj) (Pipeline.launchToks cfgs cellOf_inj), initOf allCells allRights)

/-- A device's own counters' rights, as minted. -/
def minted (c : Dev nD) : sProp 𝕄 :=
  bigSep Finset.univ fun s : SemLoc sig => bigSep Finset.univ fun d : Fin 7 => dutyTok ER (cell c s) 0 d

/-- What the launch's element deals a device. -/
def dealt (c : Dev nD) : sProp 𝕄 :=
  iprop((bigSep Finset.univ fun s : SemLoc sig => roundState ER (Rd (F := F) m) (cell c s) 0)
    ∗ (bigSep Finset.univ fun s : SemLoc sig => reached ER (cell c s) 0)
    ∗ (bigSep Finset.univ fun s : SemLoc sig => at0 (F := F) c s) ∗ minted (F := F) c)

/-- A family over all counters, device by device. -/
theorem allCells_eq (A : GSem nD τ sig → sProp 𝕄) :
    bigSep allCells A = bigSep Finset.univ fun c : Dev nD => bigSep Finset.univ fun s : SemLoc sig => A (cell c s) := by
  unfold allCells; rw [bigSep_map, bigSep_univ_prod]; rfl

/-- The rights minted, device by device. -/
theorem allRights_eq :
    bigSep allRights (fun x => (dutyTok ER x.1 x.2.1 x.2.2 : sProp 𝕄)) = bigSep Finset.univ fun c : Dev nD => minted (F := F) c := by
  unfold allRights; rw [bigSep_map, bigSep_univ_prod]
  exact bigSep_congr fun c _ => by unfold minted; rw [bigSep_univ_prod]; rfl

/-- The rounds' share of the launch's element deals every device its part. -/
theorem fund : BI.own (ER (initOf allCells allRights)) ⊢ (|==> bigSep Finset.univ (dealt m) : sProp 𝕄) := by
  iintro H
  imod (Rounds.fund ER (Rd (F := F) m) allCells allRights) $$ H with ⟨H1, H2, H3, H4⟩
  imodintro
  ihave H1 := (Entails.of_eq (allCells_eq fun g => roundState ER (Rd (F := F) m) g 0)) $$ H1
  ihave H2 := (Entails.of_eq (allCells_eq (F := F) fun g => reached ER g 0)) $$ H2
  ihave H3 := (Entails.of_eq (allCells_eq (F := F) fun g => atPos ER g 0 ∅ 0)) $$ H3
  ihave H4 := (Entails.of_eq (allRights_eq (F := F))) $$ H4
  unfold dealt; simp only [bigSep_sep']
  isplitl [H1]; · iexact H1
  isplitl [H2]; · iexact H2
  isplitl [H3] <;> iassumption

/-! ## A core's counters at zero -/

/-- The copies' counters are the kernel's own. -/
def osem : DmaSem sig → SemLoc sig := .dma
theorem ownSemFacts : Pipeline.OwnSemFacts cfg0.spec osem := by decide +kernel

theorem unscopedSems0_bar (c : Dev nD) : (unscopedSems0 c : sProp 𝕄) = semVal (cell c barL) 0 := by
  unfold unscopedSems0; rw [bigSep_eq_bigSepL_of_eq [SemLoc.reg barS] (by decide +kernel) (by decide)]; rfl

theorem sems_list : (Finset.univ : Finset (SemLoc sig)) = (barL :: (List.finRange 62).map osem).toFinset := by decide +kernel
theorem sems_list_nodup : (barL :: (List.finRange 62).map osem).Nodup := by decide +kernel

/-- All of a core's counters: the copies' and the barrier's. -/
theorem sems_own (c : Dev nD) :
    (bigSep Finset.univ fun s : SemLoc sig => (semVal (cell c s) 0 : sProp 𝕄))
      = iprop(unscopedSems0 c ∗ Pipeline.ownSems0 (Ix := Unit) (Name := ℕ) (U := UU) (Lvl := ℕ) (Val := Elt F) (τ := τ) osem c) := by
  rw [bigSep_univ_eq_bigSepL _ sems_list sems_list_nodup, bigSepL_cons', bigSepL_map, unscopedSems0_bar]
  unfold Pipeline.ownSems0
  rw [bigSep_univ_eq_bigSepL (I := DmaSem sig) (List.finRange 62) (by decide +kernel) (List.nodup_finRange 62)]

/-! ## The global step -/

/-- What the global step gives a device: the machine's records, its rounds, and the rights of the duties it pays. -/
def share (c : Dev nD) : sProp 𝕄 :=
  iprop((∃ K, records m K) ∗ (bigSep Finset.univ fun s : SemLoc sig => at0 (F := F) c s) ∗ toks (F := F) c)

/-- A core opens its counters. -/
theorem open_core (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun s : SemLoc sig => iprop(∃ κ : ℕ, cellInv ER (Rd (F := F) m) κ (cell c s)))
          ∗ (bigSep Finset.univ fun s : SemLoc sig => reached ER (cell c s) 0)
          ∗ (bigSep Finset.univ fun s : SemLoc sig => at0 (F := F) c s) ∗ minted (F := F) c) := by
  unfold dealt
  iintro ⟨Hd, Hb, H1, H2, H3, H4⟩
  ihave Hv := (Entails.of_eq (sems_own (F := F) c).symm) $$ [Hd Hb]
  · isplitl [Hb] <;> iassumption
  imod (show iprop((bigSep Finset.univ fun s : SemLoc sig => semVal (cell c s) 0) ∗ bigSep Finset.univ fun s : SemLoc sig => roundState ER (Rd (F := F) m) (cell c s) 0)
      ⊢ (|={Set.univ}=> bigSep Finset.univ fun s : SemLoc sig => iprop(∃ κ : ℕ, cellInv ER (Rd (F := F) m) κ (cell c s)) : sProp 𝕄) from by
        rw [← bigSep_sep']
        exact (bigSep_mono fun s _ => (Rounds.body_intro ER (Rd (F := F) m) (cell c s)).trans inv_alloc).trans (bigSep_fupd _ _)) $$ [Hv H1] with Hinv
  · isplitl [Hv] <;> iassumption
  imodintro
  isplitl [Hinv]; · iexact Hinv
  isplitl [H2]; · iexact H2
  isplitl [H3] <;> iassumption

/-- A copy's right among those minted at its counter. -/
theorem right_dma (c : Dev nD) (u : Use) :
    (bigSep Finset.univ fun d : Fin 7 => (dutyTok ER (cell c (.dma (sem u))) 0 d : sProp 𝕄)) ⊢ useTok (F := F) c u :=
  bigSep_elim (Finset.mem_univ (0 : Fin 7))

/-- A device's own rights, those that are ever used. -/
def rights (c : Dev nD) : sProp 𝕄 :=
  iprop((bigSep Finset.univ fun j : Fin 7 => dutyTok ER (cell c barL) 0 j)
    ∗ (bigSepL pairs fun pj => useTok (F := F) c (.send pj.1 pj.2))
    ∗ (bigSepL pairs fun pj => useTok (F := F) c (.recv pj.1 pj.2))
    ∗ (bigSepL tiles fun p => useTok (F := F) c (.out p)) ∗ useTok (F := F) c .w ∗ useTok (F := F) c .x)

theorem rights_of_minted (c : Dev nD) : minted (F := F) c ⊢ rights (F := F) c := by
  unfold minted rights
  rw [sems_eq]
  refine BIClass.sep_mono BIBase.Entails.rfl (BIClass.sep_mono (bigSepL_mono fun pj _ => right_dma c _)
    (BIClass.sep_mono (bigSepL_mono fun pj _ => right_dma c _) (BIClass.sep_mono (bigSepL_mono fun p _ => right_dma c _)
      (BIClass.sep_mono (right_dma c _) (right_dma c _)))))

/-- A device family exchanged across every slot: each device's `j`-th piece goes to its `j`-th peer. -/
theorem exchange {I : Type} [Fintype I] [DecidableEq I] (s : I → Fin 7) (A : Dev nD → I → sProp 𝕄) :
    (bigSep Finset.univ fun c : Dev nD => bigSep Finset.univ fun i : I => A c i)
      = bigSep Finset.univ fun c : Dev nD => bigSep Finset.univ fun i : I => A (peer (s i) c) i := by
  have hs : Function.Involutive fun x : Dev nD × I => (peer (s x.2) x.1, x.2) := fun x => by
    show (peer (s x.2) (peer (s x.2) x.1), x.2) = x
    rw [peer_peer]
  rw [← bigSep_univ_prod (fun x : Dev nD × I => A x.1 x.2), bigSep_univ_equiv hs.toPerm (fun x : Dev nD × I => A x.1 x.2), bigSep_univ_prod]
  rfl

/-- The rights dealt to the devices that use them. -/
theorem rights_around :
    (bigSep Finset.univ fun c : Dev nD => (rights (F := F) c : sProp 𝕄)) ⊢ bigSep Finset.univ fun c : Dev nD => toks (F := F) c := by
  have h1 : (bigSep Finset.univ fun c : Dev nD => bigSep Finset.univ fun j : Fin 7 => (dutyTok ER (cell c barL) 0 j : sProp 𝕄))
      = bigSep Finset.univ fun c : Dev nD => bigSepL slots fun k => dutyTok ER (cell (peer (sj c k) c) barL) 0 (sj c k) := by
    rw [exchange (fun j => j)]
    exact bigSep_congr fun c _ => by rw [bigSep_slots, slots_sj c]
  have h2 : (bigSep Finset.univ fun c : Dev nD => bigSepL pairs fun pj => (useTok (F := F) c (.recv pj.1 pj.2) : sProp 𝕄))
      = bigSep Finset.univ fun c : Dev nD => bigSepL pairs fun pj => useTok (F := F) (peer pj.2 c) (.recv pj.1 pj.2) := by
    simp only [← bigSep_pairs]
    exact exchange (fun pj : Fin 4 × Fin 7 => pj.2) _
  unfold rights toks
  simp only [bigSep_sep']
  rw [h1, h2]

/-- One device's share out of the machine's records and its own pieces. -/
theorem share_intro (K : Dev nD × SemLoc sig → ℕ) (c : Dev nD) :
    iprop(records m K ∗ (bigSep Finset.univ fun s : SemLoc sig => at0 (F := F) c s) ∗ toks (F := F) c) ⊢ share m c := by
  unfold share
  iintro ⟨H, Hr⟩
  isplitl [H]
  · iexists K; iexact H
  iexact Hr

/-- From every core's open counters to every device's share. -/
theorem regroup :
    (bigSep Finset.univ fun c : Dev nD => iprop((bigSep Finset.univ fun s : SemLoc sig => iprop(∃ κ : ℕ, cellInv ER (Rd (F := F) m) κ (cell c s)))
          ∗ (bigSep Finset.univ fun s : SemLoc sig => reached ER (cell c s) 0)
          ∗ (bigSep Finset.univ fun s : SemLoc sig => at0 (F := F) c s) ∗ minted (F := F) c) : sProp 𝕄)
      ⊢ bigSep Finset.univ (share m) := by
  rw [bigSep_sep', bigSep_sep', bigSep_sep', ← bigSep_univ_prod (fun ck : Dev nD × SemLoc sig => iprop(∃ κ : ℕ, cellInv ER (Rd (F := F) m) κ (cell ck.1 ck.2))),
    ← bigSep_univ_prod (fun ck : Dev nD × SemLoc sig => (reached ER (cell ck.1 ck.2) 0 : sProp 𝕄))]
  iintro ⟨HI, #HR, Hat, Hm⟩
  ihave HK := (BI.bigSep_exists_pi Finset.univ (fun (ck : Dev nD × SemLoc sig) (κ : ℕ) => (cellInv ER (Rd (F := F) m) κ (cell ck.1 ck.2) : sProp 𝕄))) $$ HI
  icases HK with ⟨%K, #HI⟩
  ihave Ht := (show (bigSep Finset.univ fun c : Dev nD => (minted (F := F) c : sProp 𝕄)) ⊢ bigSep Finset.univ fun c : Dev nD => toks (F := F) c from
    (bigSep_mono fun c _ => rights_of_minted (F := F) c).trans (rights_around (F := F))) $$ Hm
  iapply (show iprop(records m K ∗ bigSep Finset.univ fun c : Dev nD => iprop((bigSep Finset.univ fun s : SemLoc sig => at0 (F := F) c s) ∗ toks (F := F) c))
      ⊢ bigSep Finset.univ (share m) from
    (BIClass.sep_mono (BI.bigSep_of_persistent Finset.univ (records m K)) BIBase.Entails.rfl).trans
      (by rw [← bigSep_sep']; exact bigSep_mono fun c _ => share_intro m K c))
  isplitr
  · unfold records
    isplitr
    · iexact HI
    iexact HR
  rw [bigSep_sep']
  isplitl [Hat] <;> iassumption

/-- The global step: every device's counters opened, every right dealt. -/
theorem glob : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (share m) :=
  ((bigSep_mono fun c _ => open_core m c).trans (bigSep_fupd _ _)).trans (BI.fupd_mono (regroup m))

/-! ## The credits -/

theorem owedR_sum (c : Dev nD) :
    owedR c pairs = ∑ pj : Fin 4 × Fin 7, (tallyAt (cell (peer pj.2 c) (.dma (sem (.recv pj.1 pj.2)))) () (useAmt (.recv pj.1 pj.2)) : CellTallies nD τ sig Unit) := by
  unfold owedR
  rw [show (Finset.univ : Finset (Fin 4 × Fin 7)) = pairs.toFinset from by decide +kernel, List.sum_toFinset _ (by decide +kernel)]

theorem owedB_sum (c : Dev nD) :
    owedB c slots = ∑ j : Fin 7, (tallyAt (cell (peer j c) barL) () 1 : CellTallies nD τ sig Unit) := by
  unfold owedB
  rw [← Equiv.sum_comp (Equiv.ofBijective (sj c) (Finite.injective_iff_bijective.mp (sj_inj c)))
    fun j => (tallyAt (cell (peer j c) barL) () 1 : CellTallies nD τ sig Unit),
    show (Finset.univ : Finset (Fin 7)) = slots.toFinset from by decide +kernel, List.sum_toFinset _ (by decide +kernel)]
  rfl

/-- Seven units at one counter. -/
theorem seven (c : Dev nD) : (∑ _j : Fin 7, (tallyAt (cell c barL) () 1 : CellTallies nD τ sig Unit)) = tallyAt (cell c barL) () 7 := by
  simp only [Fin.sum_univ_succ, Fin.sum_univ_zero, add_zero, tallyAt_add]

/-- A device's credits at launch: what the others owe its barrier and its slots. -/
theorem creds_intro (c : Dev nD) : (Pipeline.launchCred O₀ c : sProp 𝕄) ⊢ creds (F := F) c := by
  have h : (O₀ : Dev nD → CellTallies nD τ sig Unit)
      = fun d => (∑ pj ∈ (Finset.univ : Finset (Fin 4 × Fin 7)), (fun (pj : Fin 4 × Fin 7) (d : Dev nD) =>
            (tallyAt (cell (peer pj.2 d) (.dma (sem (.recv pj.1 pj.2)))) () (useAmt (.recv pj.1 pj.2)) : CellTallies nD τ sig Unit)) pj d)
          + ∑ j ∈ (Finset.univ : Finset (Fin 7)), (fun (j : Fin 7) (d : Dev nD) => (tallyAt (cell (peer j d) barL) () 1 : CellTallies nD τ sig Unit)) j d :=
    funext fun d => by unfold O₀; rw [owedR_sum, owedB_sum]
  rw [h, Pipeline.launchCred_add, Pipeline.launchCred_sum, Pipeline.launchCred_sum]
  unfold creds
  rw [← seven, Pipeline.cred_finsetSum, ← bigSep_pairs]
  refine BIBase.Entails.trans (BIClass.sep_mono
    (bigSep_mono fun (pj : Fin 4 × Fin 7) _ => Pipeline.launchCred_tallyAt (.dma (sem (.recv pj.1 pj.2))) (peer pj.2) (peer pj.2)
      (peer_peer pj.2) (peer_peer pj.2) () (useAmt (.recv pj.1 pj.2)) c)
    (bigSep_mono fun j _ => Pipeline.launchCred_tallyAt barL (peer j) (peer j) (peer_peer j) (peer_peer j) () 1 c)) ?_
  iintro ⟨H1, H2⟩
  isplitl [H2] <;> iassumption

end Cert.KernelIdeal.Hand

end
-- ==== Proof.K.Launch.lean ====
/- The launch: the pipeline's obligation from the body, and the run of the whole machine with the contents it leaves. -/
module

public import proofs.«01_k».proof.Proof.K.Ghost
public import proofs.«01_k».proof.Proof.Gen.KernelIdeal.Launch
public import Idealize.ShloMosaic.Lib.Pipeline.Launch
public import Idealize.ShloMosaic.Lib.Pipeline.Kit
public import Idealize.ShloMosaic.Lib.Pipeline.CollectiveSegs
public import Idealize.ShloMosaic.Lib.Tactic

@[expose] public section

set_option maxRecDepth 65536

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- A whole buffer held at some contents. -/
def some1 (c : Dev nD) (b : Ref sig .tc) : sProp 𝕄 :=
  iprop(∃ f : Buf (Elt F) ((c : Thread nD τ).loc b), ((c : Thread nD τ).loc b) ↦{fullShare} f)

/-- A whole buffer's memref held is the buffer held. -/
theorem held_some (c : Dev nD) (b : Ref sig .tc) : (held (F := F) c (Memref.whole b) : sProp 𝕄) = some1 (F := F) c b := by
  unfold held some1; simp only [Memref.view_whole, View.set_whole]

/-- The body's buffers and the one it leaves alone, as the launch lists them. -/
theorem rest_eq (c : Dev nD) :
    (Pipeline.scopedRest (Ix := Unit) (Name := ℕ) (U := UU) (Lvl := ℕ) (Val := Elt F) cfg0.spec c : sProp 𝕄)
      = iprop(some1 (F := F) c cc0_scratch0 ∗ some1 (F := F) c cc0_scratch1 ∗ some1 (F := F) c cc0_scratch2 ∗ some1 (F := F) c cc0_scratch3
          ∗ some1 (F := F) c cc0_scratch4) := by
  rw [scopedRest0_eq]; rfl

theorem scr_eq (c : Dev nD) :
    (scr (F := F) c : sProp 𝕄) = iprop(some1 (F := F) c cc0_scratch0 ∗ some1 (F := F) c cc0_scratch1 ∗ some1 (F := F) c cc0_scratch2
      ∗ some1 (F := F) c cc0_scratch3) := by
  unfold scr; rw [held_some, held_some, held_some, held_some]

/-! ## The invariant at the region's two ends -/

/-- What the launch gives a device beside its scratch. -/
def start (c : Dev nD) : sProp 𝕄 :=
  iprop((own1 c xM (X m c) ∗ own1 c wM (Wt m c) ∗ held (F := F) c outM) ∗ share m c ∗ creds (F := F) c ∗ levAts L lv)

/-- Before the body. -/
def inv₀ (c : Dev nD) : sProp 𝕄 := iprop(start m c ∗ scr (F := F) c ∗ some1 (F := F) c cc0_scratch4)

/-- What the body's end gives back beside the scratch: the arrays, and every counter at zero. -/
def done (c : Dev nD) : sProp 𝕄 :=
  iprop((own1 c xM (X m c) ∗ own1 c wM (Wt m c) ∗ own1 c outM (outW m c)) ∗ bigSep Finset.univ fun s => semVal (cell c s) 0)

/-- After the body. -/
def inv₁ (c : Dev nD) : sProp 𝕄 := iprop(done m c ∗ scr (F := F) c ∗ some1 (F := F) c cc0_scratch4)

def dats (_ : Fin 1) (c : Dev nD) : Dat τ (Elt F) Unit ℕ UU ℕ cfg0 c where
  A w := (s₀ m ρ).mem ((cfg0.win w).arr.view.loc (c : Thread nD τ))
  after w _ := w.elim0
  Φ t := match t with
    | ⟨0, _⟩ => inv₀ m c
    | ⟨_ + 1, _⟩ => inv₁ m c
  q _ := fullShare
  owed t := match t with
    | ⟨0, _⟩ => O₀ c
    | ⟨_ + 1, _⟩ => 0

theorem no_windows (Φ : Fin cfg0.W → sProp 𝕄) : bigSep Finset.univ Φ = BI.emp := by
  show bigSep (Finset.univ : Finset (Fin 0)) _ = _
  rw [Finset.univ_eq_empty, bigSep_empty]

/-- A device's debts at a point, both ways. -/
theorem owes_in (c : Dev nD) (t : Fin (cfg0.N + 1)) : ((dats m ρ 0 c).owesAt () t : sProp 𝕄) ⊢ ow (F := F) c ((dats m ρ 0 c).owed t) := by
  unfold Dat.owesAt Pipeline.owesWithin ow
  iintro ⟨%W, -, H⟩
  iexists W; iexact H
theorem owes_out (c : Dev nD) (t : Fin (cfg0.N + 1)) : (ow (F := F) c ((dats m ρ 0 c).owed t) : sProp 𝕄) ⊢ (dats m ρ 0 c).owesAt () t := by
  unfold Dat.owesAt Pipeline.owesWithin ow
  iintro ⟨%W, H⟩
  iexists W
  isplitr; · ipureintro; exact fun _ _ => Or.inl trivial
  iexact H

/-- The body from the invariant before it to the invariant after it. -/
theorem body_run (c : Dev nD) :
    iprop(inv₀ m c ∗ ow (F := F) c (O₀ c)) ⊢ WP c (prog (F := F)) (fun _ => iprop(inv₁ m c ∗ ow (F := F) c 0)) := by
  unfold WP prog
  simp only [Prog.lift, Prog.bind_op, Prog.bind_ret, wp_deviceId]
  unfold inv₀ start share
  iintro ⟨⟨⟨Harr, ⟨⟨%K, #Hrec⟩, Hat, Ht⟩, Hc, #Hlev⟩, Hs, Hr⟩, HO⟩
  iapply (wp_last c (run m K c)) $$ [Harr Hat Ht Hc Hs HO]
  · isplitr; · iexact Hrec
    isplitr; · iexact Hlev
    unfold pre
    isplitl [Harr]; · iexact Harr
    isplitl [Hs]; · iexact Hs
    isplitl [Hat]; · iexact Hat
    isplitl [Ht]; · iexact Ht
    isplitl [Hc] <;> iassumption
  unfold post inv₁ done
  iintro ⟨Harr, Hs, Hz, HO⟩
  isplitr [HO]
  · isplitl [Harr Hz]
    · isplitl [Harr]; · iexact Harr
      iexact Hz
    isplitl [Hs]; · iexact Hs
    iexact Hr
  iexact HO

/-- The pipeline's obligation on the body. -/
theorem body_obligation (c : Dev nD) : BodyObligation (dats (F := F) m ρ 0 c) (defs₀ (F := F)) 𝒱₀ () Set.univ := fun t => by
  rw [fin_N0 t]
  rw [no_windows, no_windows]
  have h1 := owes_in m ρ c (t0_0.castSucc)
  have h2 := owes_out m ρ c (t0_0.succ)
  rw [show (dats m ρ 0 c).owed t0_0.castSucc = O₀ c from rfl] at h1
  rw [show (dats m ρ 0 c).owed t0_0.succ = 0 from rfl] at h2
  show iprop(inv₀ m c ∗ (dats m ρ 0 c).owesAt () t0_0.castSucc ∗ emp) ⊢ wp frame (wpE (defs₀ (F := F)) 𝒱₀ c none) Set.univ
    (bodyAt0 (F := F) t0_0) (fun _ => iprop(inv₁ m c ∗ (dats m ρ 0 c).owesAt () t0_0.succ ∗ emp))
  rw [body_eq]
  iintro ⟨Hi, Ho, -⟩
  ihave Ho := h1 $$ Ho
  iapply (wp_last c (body_run m c)) $$ [Hi Ho]
  · isplitl [Hi] <;> iassumption
  iintro ⟨Hi, Ho⟩
  ihave Ho := h2 $$ Ho
  isplitl [Hi]; · iexact Hi
  isplitl [Ho]; · iexact Ho
  iempintro

/-! ## The launch's side conditions -/

theorem share_full (c : Dev nD) (w : Fin cfg0.W) : (dats m ρ 0 c).share w = fullShare := w.elim0

/-- The arrays at launch. -/
theorem arrays_in (c : Dev nD) :
    (Pipeline.unscopedRestP (Ix := Unit) (Name := ℕ) (U := UU) (Lvl := ℕ) Pipeline.Prefetch.none cfg0.spec c (fun b => m ((c : Thread nD τ).loc b)) : sProp 𝕄)
      ⊢ iprop(own1 c xM (X m c) ∗ own1 c wM (Wt m c) ∗ held (F := F) c outM) := by
  rw [Pipeline.unscopedRestP_none, unscopedRest0_eq, held_some]
  refine BIClass.sep_mono (Entails.of_eq (owns_whole _ _ _ _).symm) (BIClass.sep_mono (Entails.of_eq (owns_whole _ _ _ _).symm) ?_)
  unfold some1
  iintro H
  iexists _; iexact H

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ share m c)
      ⊢ |={Set.univ}=> iprop(start m c ∗ emp) := by
  iintro ⟨Ha, Hlev, Hcr, -, HG⟩
  ihave Ha := (arrays_in m c) $$ Ha
  ihave Hc := (creds_intro (F := F) c) $$ Hcr
  imodintro
  unfold start
  isplitl
  · isplitl [Ha]; · iexact Ha
    isplitl [HG]; · iexact HG
    isplitl [Hc] <;> iassumption
  · iempintro

theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = inv₀ m c from rfl, rest_eq]
  unfold inv₀
  rw [scr_eq]
  iintro ⟨Hs, -, H0, H1, H2, H3, H4⟩
  isplitl [Hs]; · iexact Hs
  isplitr [H4]
  · isplitl [H0]; · iexact H0
    isplitl [H1]; · iexact H1
    isplitl [H2] <;> iassumption
  iexact H4

/-- What a device hands back at the end: the barrier's counter at zero and its arrays. -/
def back (c : Dev nD) : sProp 𝕄 :=
  iprop(unscopedSems0 c ∗ (((c : Thread nD τ).loc main_arg0) ↦{fullShare} m ((c : Thread nD τ).loc main_arg0))
    ∗ (((c : Thread nD τ).loc main_arg1) ↦{fullShare} m ((c : Thread nD τ).loc main_arg1))
    ∗ (((c : Thread nD τ).loc main_v1) ↦{fullShare} outW m c))

theorem leave (c : Dev nD) :
    (dats m ρ 0 c).Φ (Fin.last cfg0.N) ⊢ iprop(back m c ∗ Pipeline.ownSems0 osem c ∗ Pipeline.scopedRest cfg0.spec c) := by
  rw [show (dats m ρ 0 c).Φ (Fin.last cfg0.N) = inv₁ m c from rfl, rest_eq]
  unfold inv₁ done back
  rw [scr_eq, sems_own]
  iintro ⟨⟨⟨Hx, Hw, Ho⟩, Hb, Hd⟩, ⟨H0, H1, H2, H3⟩, H4⟩
  ihave Hx := (Entails.of_eq (owns_whole (c : Thread nD τ) main_arg0 fullShare (X m c))) $$ Hx
  ihave Hw := (Entails.of_eq (owns_whole (c : Thread nD τ) main_arg1 fullShare (Wt m c))) $$ Hw
  ihave Ho := (Entails.of_eq (owns_whole (c : Thread nD τ) main_v1 fullShare (outW m c))) $$ Ho
  isplitl [Hb Hx Hw Ho]
  · isplitl [Hb]; · iexact Hb
    isplitl [Hx]; · iexact Hx
    isplitl [Hw]; · iexact Hw
    iexact Ho
  isplitl [Hd]; · iexact Hd
  isplitl [H0]; · iexact H0
  isplitl [H1]; · iexact H1
  isplitl [H2]; · iexact H2
  isplitl [H3]; · iexact H3
  iexact H4

theorem waits (c : Dev nD) : (levAts L lv : sProp 𝕄) ⊢ Pipeline.cellsWaits cfgs (dats m ρ) () 0 c :=
  Pipeline.cellsWaits_intro cfgs (dats m ρ) () 0 c fun w s t => w.elim0

/-! ## The run -/

/-- What the machine's memory holds at a device after the run: the arguments as launched, the result computed. -/
def Left (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v1) = outW m c

theorem read_back (c : Dev nD) (s' : Phys nD τ sig (Elt F)) :
    iprop(back m c ∗ emp ∗ SI s')
      ⊢ |={Set.univ}=> iprop(⌜Left m c s'.mem ∧ ∀ sm : SemLoc sig, sm.isScoped .tc = false → s'.mem.sem ((c.tc : Thread nD τ), sm) = 0⌝ ∗ SI s') := by
  unfold back
  iintro ⟨⟨Hb, Hx, Hw, Ho⟩, -, HSI⟩
  icombine HSI Hx gives %hx
  icombine HSI Hw gives %hw
  icombine HSI Ho gives %ho
  imod (Pipeline.unscopedSems0_read (X := unscopedSems0 c) (c := c) fupd_intro s') $$ [Hb HSI] with ⟨%hz, HSI⟩
  · isplitl [Hb] <;> iassumption
  imodintro
  isplitr
  · ipureintro
    exact ⟨⟨Buf.eq_of_forall_mem_univ hx, Buf.eq_of_forall_mem_univ hw, Buf.eq_of_forall_mem_univ ho⟩, hz⟩
  iexact HSI

/-- From any memory with every counter at zero, every fair run of the eight devices ends, and at its end every device
    holds its arguments as launched and the computed result, and every counter is zero again. -/
theorem run_main : θ_run defs (onTc (τ := τ) (main (F := F))) (s₀ m ρ) (fun r => (∀ c : Dev nD, Left m c r.2) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => w.elim0) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := waits m ρ)
    (G := dealt m) (G' := share m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := back m) (Z := fun _ => iprop(emp))
    (hX := start_intro m ρ) (hin := enter m ρ) (hout := leave m ρ)
    (QY := fun c s => Left m c s ∧ ∀ sm : SemLoc sig, sm.isScoped .tc = false → s.sem ((c.tc : Thread nD τ), sm) = 0)
    (hY := read_back m)
    (hQ := fun _ h hs => ⟨fun c => (h c).2.2.1, sem_eq_zero hs fun c => (h c).2.2.2⟩)

end Cert.KernelIdeal.Hand

end
-- ==== Proof.K.Value.lean ====
/- The value: over the extended reals, a device's result is its block of rows of the reference's result. -/
module

public import proofs.«01_k».proof.Proof.K.Launch
public import proofs.«01_k».proof.ReferenceIdeal
public import proofs.«01_k».proof.Proof.Gen.ReferenceIdeal
public import Idealize.ShloMosaic.Lib.MatmulPlain
public import Idealize.ShloMosaic.Lib.StackMember
public import Idealize.ShloMosaic.Lib.Pipeline.Value
public import Idealize.ShloMosaic.Lib.Layout

@[expose] public section

set_option maxRecDepth 65536

noncomputable section

namespace Cert.KernelIdeal.Hand

open Idealize.ShloMosaic Idealize.ShloMosaic.TcCoe
open Idealize.ShloMosaic.ValueIdx
open scoped BigOperators
open Cert.KernelIdeal Cert.KernelIdeal.Gen

/-! ## Indices of two coordinates -/

/-- Two indices of two coordinates are equal when their coordinates are. -/
theorem idx2_ext {a b : Nat} {i j : (⟨2, ![a, b]⟩ : Shape).Idx} (h0 : (i 0).val = (j 0).val) (h1 : (i 1).val = (j 1).val) : i = j := by
  funext x; fin_cases x
  · exact Fin.ext h0
  · exact Fin.ext h1

/-- An index of two coordinates is the pair of them. -/
theorem idx2_eta {a b : Nat} (i : (⟨2, ![a, b]⟩ : Shape).Idx) : i = ix2 (n0 := a) (n1 := b) (i 0) (i 1) := idx2_ext rfl rfl

/-- Position `k` of block `e`, of the eight blocks of 256 that make up 2048. -/
def pos (e : Fin 8) (k : Fin 256) : Fin 2048 := ⟨256 * e.val + k.val, by omega⟩

/-! ## The whole product and its eight parts -/

section Product

variable (A B : FVec Ideal S2048x2048 .f32)

/-- An entry of the whole product. -/
def dotAt (r n : Fin 2048) : EReal := ∑ k : Fin 2048, A (ix2 r k) * B (ix2 k n)

/-- The part of an entry that one block of 256 of the contracted positions adds. -/
def part (r n : Fin 2048) (e : Fin 8) : EReal := ∑ k : Fin 256, A (ix2 r (pos e k)) * B (ix2 (pos e k) n)

/-- An entry of the whole product is the sum of its eight parts. -/
theorem dotAt_parts (r n : Fin 2048) : dotAt A B r n = ∑ e : Fin 8, part A B r n e := by
  unfold dotAt part
  rw [← Fintype.sum_prod_type']
  refine (Fintype.sum_equiv (finProdFinEquiv (m := 8) (n := 256)) _ _ fun x => ?_).symm
  have h : pos x.1 x.2 = finProdFinEquiv x := Fin.ext (Nat.add_comm _ _)
  rw [h]

end Product

/-- A sum over the devices is a device's own term and its seven peers'. -/
theorem sum_peers (c : Dev nD) (f : Dev nD → EReal) : ∑ e : Dev nD, f e = f c + ∑ j : Fin 7, f (peer j c) := by
  have hbij : Function.Bijective fun o : Option (Fin 7) => o.elim c fun j => peer j c := by
    constructor
    · rintro (_ | j) (_ | j') h
      · rfl
      · exact absurd h.symm (peer_ne j' c)
      · exact absurd h (peer_ne j c)
      · exact congrArg some (peer_inj j j' c h)
    · intro d
      by_cases h : d = c
      · exact ⟨none, h.symm⟩
      · obtain ⟨j, hj⟩ := peer_surj c d h
        exact ⟨some j, hj⟩
  rw [← Fintype.sum_bijective _ hbij (fun o => f (o.elim c fun j => peer j c)) f fun _ => rfl, Fintype.sum_option]
  rfl

/-- A sum over the slots, in the order in which the tiles arrive. -/
theorem sum_order (f : Fin 7 → EReal) : (order.map f).sum = ∑ j : Fin 7, f j := by
  rw [Fin.sum_univ_def]
  exact ((by decide : order.Perm (List.finRange 7)).map f).sum_eq

/-! ## The kernel's payloads, entry by entry -/

/-- The first product, at an entry. -/
theorem pay1_apply (w : FVec Ideal S256x2048 .f32) (x : FVec Ideal S256x256 .f32) (r : Fin 256) (n : Fin 2048) :
    k0_pay1 (F := Ideal) w x (ix2 r n) = ∑ k : Fin 256, x (ix2 r k) * w (ix2 k n) := by
  unfold k0_pay1
  rw [shapeCast_self]
  refine (Ideal.matmul_plain_apply none x w _ r n).trans ?_
  show Ideal.ofBits .f32 0x00000000#32 + _ = _
  rw [Ideal.ofBits_zero_f32, zero_add]

/-- One peer's step, at an entry. -/
theorem accStep_apply (w : FVec Ideal S256x2048 .f32) (a : FVec Ideal S64x2048 .f32) (t : FVec Ideal S64x256 .f32) (r : Fin 64) (n : Fin 2048) :
    accStep (F := Ideal) w a t (ix2 r n) = a (ix2 r n) + ∑ k : Fin 256, t (ix2 r k) * w (ix2 k n) := by
  unfold accStep
  rw [shapeCast_self]
  refine congrArg (a (ix2 r n) + ·) ((Ideal.matmul_plain_apply none t w _ r n).trans ?_)
  show Ideal.ofBits .f32 0x00000000#32 + _ = _
  rw [Ideal.ofBits_zero_f32, zero_add]

/-- The activation function of one entry, multiplied in the kernel's order. -/
def act (v : EReal) : EReal :=
  Ideal.ofBits .f32 0x3F000000#32 * v * (Ideal.ofBits .f32 0x3F800000#32
    + Ideal.tanh (Ideal.ofBits .f32 0x3F4C422A#32 * (v + Ideal.ofBits .f32 0x3D372713#32 * v * v * v)))

/-- The kernel's activation is that function at every entry. -/
theorem pay11_apply (a : FVec Ideal S64x2048 .f32) (i : S64x2048.Idx) : k0_pay11 (F := Ideal) a i = act (a i) := by
  unfold k0_pay11
  rw [shapeCast_self]
  rfl

/-! ## The reference -/

/-- The reference's product. -/
def refDot (A B : FVec Ideal S2048x2048 .f32) : FVec Ideal S2048x2048 .f32 :=
  Host.dotGeneral Cert.ReferenceIdeal.dot_S2048x2048_S2048x2048_S2048x2048_1_0_0_1_n_n none A B

/-- A constant at every entry, as the reference writes it. -/
def refConst (b : BitVec 32) : FVec Ideal S2048x2048 .f32 :=
  broadcastInDim Cert.ReferenceIdeal.S2048x2048 ![] Cert.ReferenceIdeal.Gen.bcast_S_S2048x2048 (constant Cert.ReferenceIdeal.S_ .f32 b)

/-- The reference's result. -/
def refOut (A B : FVec Ideal S2048x2048 .f32) : FVec Ideal S2048x2048 .f32 :=
  mulf (mulf (refConst 0x3F000000#32) (refDot A B)) (addf (refConst 0x3F800000#32) (Host.tanh (mulf (refConst 0x3F4C422A#32)
    (addf (refDot A B) (mulf (refConst 0x3D372713#32) (mulf (mulf (refDot A B) (refDot A B)) (refDot A B)))))))

/-- The reference's product, at an entry. -/
theorem refDot_apply (A B : FVec Ideal S2048x2048 .f32) (r n : Fin 2048) : refDot A B (ix2 r n) = dotAt A B r n :=
  StackMember.dotGeneral_plain_apply none A B r n

/-- A product of four, associated from the left and from the right. -/
theorem cube_assoc (k v : EReal) : k * (v * v * v) = k * v * v * v := by simp only [mul_assoc]

/-- The reference's result, at an entry. -/
theorem refOut_apply (A B : FVec Ideal S2048x2048 .f32) (r n : Fin 2048) : refOut A B (ix2 r n) = act (dotAt A B r n) := by
  rw [← refDot_apply]
  show Ideal.ofBits .f32 0x3F000000#32 * refDot A B (ix2 r n) * (Ideal.ofBits .f32 0x3F800000#32
    + Ideal.tanh (Ideal.ofBits .f32 0x3F4C422A#32 * (refDot A B (ix2 r n) + Ideal.ofBits .f32 0x3D372713#32
      * (refDot A B (ix2 r n) * refDot A B (ix2 r n) * refDot A B (ix2 r n))))) = _
  rw [cube_assoc]
  rfl

/-! ## A device's result -/

section Device

variable (m : (ℓ : Loc nD τ sig) → Buf (Elt Ideal) ℓ) (A B : FVec Ideal S2048x2048 .f32)

/-- A memory whose devices hold the whole activations by blocks of columns, and each the whole weights. -/
structure Holds : Prop where
  /-- a device's activations are its block of columns -/
  x : ∀ c : Dev nD, X (F := Ideal) m c = Layout.block S2048x256 S2048x2048 1 8 c A
  /-- a device's weights are the whole ones -/
  w : ∀ c : Dev nD, Wt (F := Ideal) m c = B

variable {m A B}

/-- A device's activations, entry by entry. -/
theorem Holds.X_apply (h : Holds m A B) (e : Dev nD) (i : S2048x256.Idx) : X m e i = A (ix2 (n0 := 2048) (n1 := 2048) (i 0) (pos e (i 1))) := by
  rw [h.x e, Layout.block_apply]
  refine congrArg A (idx2_ext ?_ ?_)
  · exact (Layout.idx_cols_val _ e i).1
  · refine (Layout.idx_cols_val _ e i).2.trans ?_
    show e.val * 256 + (i 1).val = 256 * e.val + (i 1).val
    rw [Nat.mul_comm]

/-- A block of the weights, entry by entry. -/
theorem Holds.wB_apply (h : Holds m A B) (c e : Dev nD) (k : Fin 256) (n : Fin 2048) : wB m c e (ix2 k n) = B (ix2 (pos e k) n) := by
  show Wt m c ((wR e).emb (ix2 k n)) = _
  rw [h.w c]
  refine congrArg B (idx2_ext ?_ ?_)
  · exact emb_val (s := S2048x2048) _ _ _ _ 0
  · exact (emb_val (s := S2048x2048) _ _ _ _ 1).trans (Nat.zero_add _)

/-- Row `r` of tile `p` of a device's block of rows. -/
def row (p : Fin 4) (r : Fin 64) : Fin 256 := ⟨64 * p.val + r.val, by omega⟩

/-- The tile that a peer sends, entry by entry. -/
theorem Holds.gT_apply (h : Holds m A B) (c : Dev nD) (p : Fin 4) (j : Fin 7) (r : Fin 64) (k : Fin 256) :
    gT m c p j (ix2 r k) = A (ix2 (pos c (row p r)) (pos (peer j c) k)) := by
  show X m (peer j c) ((xR c p).emb (ix2 r k)) = _
  rw [h.X_apply]
  refine congrArg A (idx2_ext ?_ ?_)
  · refine (emb_val (s := S2048x256) _ _ _ _ 0).trans ?_
    show 256 * c.val + 64 * p.val + r.val = 256 * c.val + (64 * p.val + r.val)
    omega
  · show 256 * _ + _ = 256 * _ + _
    exact congrArg (256 * (peer j c).val + ·) ((emb_val (s := S2048x256) _ _ _ _ 1).trans (Nat.zero_add _))

/-- A device's own rows of its activations, entry by entry. -/
theorem Holds.xO_apply (h : Holds m A B) (c : Dev nD) (r k : Fin 256) : xO m c (ix2 r k) = A (ix2 (pos c r) (pos c k)) := by
  show X m c ((xlR c).emb (ix2 r k)) = _
  rw [h.X_apply]
  refine congrArg A (idx2_ext ?_ ?_)
  · exact emb_val (s := S2048x256) _ _ _ _ 0
  · show 256 * _ + _ = 256 * _ + _
    exact congrArg (256 * c.val + ·) ((emb_val (s := S2048x256) _ _ _ _ 1).trans (Nat.zero_add _))

/-- The accumulator's tile at first: the device's own part. -/
theorem Holds.accP_apply (h : Holds m A B) (c : Dev nD) (p : Fin 4) (r : Fin 64) (n : Fin 2048) :
    accP m c p (ix2 r n) = part A B (pos c (row p r)) n c := by
  have he : (aR p).emb (ix2 r n) = (ix2 (row p r) n : S256x2048.Idx) := by
    refine idx2_ext ?_ ?_
    · exact emb_val (s := S256x2048) _ _ _ _ 0
    · exact (emb_val (s := S256x2048) _ _ _ _ 1).trans (Nat.zero_add _)
  show acc0 m c ((aR p).emb (ix2 r n)) = _
  rw [he]
  unfold acc0 part
  rw [pay1_apply]
  exact Finset.sum_congr rfl fun k _ => by rw [h.xO_apply, h.wB_apply]

/-- One peer's step adds that peer's part. -/
theorem Holds.addP_apply (h : Holds m A B) (c : Dev nD) (p : Fin 4) (j : Fin 7) (a : FVec Ideal S64x2048 .f32) (r : Fin 64) (n : Fin 2048) :
    addP m c p a j (ix2 r n) = a (ix2 r n) + part A B (pos c (row p r)) n (peer j c) := by
  unfold addP part
  rw [accStep_apply]
  exact congrArg (a (ix2 r n) + ·) (Finset.sum_congr rfl fun k _ => by rw [h.gT_apply, h.wB_apply])

/-- Several peers' steps add those peers' parts. -/
theorem Holds.foldl_apply (h : Holds m A B) (c : Dev nD) (p : Fin 4) (r : Fin 64) (n : Fin 2048) (l : List (Fin 7)) (a : FVec Ideal S64x2048 .f32) :
    l.foldl (addP m c p) a (ix2 r n) = a (ix2 r n) + (l.map fun j => part A B (pos c (row p r)) n (peer j c)).sum := by
  induction l generalizing a with
  | nil => exact (add_zero _).symm
  | cons j l ih =>
    rw [List.foldl_cons, ih, h.addP_apply, List.map_cons, List.sum_cons, add_assoc]

/-- The accumulator's tile at the end: the whole product. -/
theorem Holds.accE_apply (h : Holds m A B) (c : Dev nD) (p : Fin 4) (r : Fin 64) (n : Fin 2048) :
    accE m c p (ix2 r n) = dotAt A B (pos c (row p r)) n := by
  unfold accE
  rw [h.foldl_apply, h.accP_apply, sum_order, dotAt_parts]
  exact (sum_peers c fun e => part A B (pos c (row p r)) n e).symm

/-- A device's result is its block of rows of the reference's result. -/
theorem Holds.outW_eq (h : Holds m A B) (c : Dev nD) : outW m c = Layout.block S256x2048 S2048x2048 0 8 c (refOut A B) := by
  funext i
  have hr : pos c (row (tileOf i) (inTile i 0)) = pos c (i 0) := by
    refine congrArg (pos c) (Fin.ext ?_)
    show 64 * ((i 0).val / 64) + (i 0).val % 64 = (i 0).val
    omega
  have hn : inTile i 1 = i 1 := rfl
  have ho : outW m c i = act (dotAt A B (pos c (i 0)) (i 1)) := by
    show k0_pay11 (F := Ideal) (accE m c (tileOf i)) (inTile i) = _
    rw [pay11_apply, idx2_eta (inTile i)]
    refine congrArg act ((h.accE_apply c (tileOf i) (inTile i 0) (inTile i 1)).trans ?_)
    rw [hr, hn]
  refine ho.trans ((refOut_apply A B (pos c (i 0)) (i 1)).symm.trans ?_)
  refine congrArg (refOut A B) (idx2_ext ?_ ?_)
  · refine Eq.trans ?_ (Layout.idx_rows_val _ c i).1.symm
    show 256 * c.val + (i 0).val = c.val * 256 + (i 0).val
    rw [Nat.mul_comm]
  · exact (Layout.idx_rows_val _ c i).2.symm

end Device

end Cert.KernelIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.K.Value
public import proofs.«01_k».proof.Proof.KB.Launch
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- Every run of the kernel at the printed floats ends with its arguments unchanged and every counter at zero. -/
theorem frame_P : Cert.quiescent_Kernel := fun m g _ =>
  (θ_run _ _ _).mono (fun r h => ⟨fun c => ⟨(h.1 c).1, (h.1 c).2.1⟩, h.2⟩) (Cert.Kernel.Hand.run_main (F := Bits) m g)

/-- Every run of the kernel over the extended reals ends with its arguments unchanged and every counter at zero. -/
theorem frame_PI : Cert.quiescent_KernelIdeal := fun m g _ =>
  (θ_run _ _ _).mono (fun r h => ⟨fun c => ⟨(h.1 c).1, (h.1 c).2.1⟩, h.2⟩) (Cert.KernelIdeal.Hand.run_main (F := Ideal) m g)

/-- Every run of the reference over the extended reals ends with its arguments unchanged; it has no counters. -/
theorem frame_RI : Cert.quiescent_ReferenceIdeal := fun m g _ =>
  (θ_run _ _ _).mono (fun r h => ⟨fun c => (h c).2, sem_eq_zero_of_no_sems (by decide) r.2⟩)
    (Cert.ReferenceIdeal.Value.run (F := Ideal) m g)

/-- The kernel's result on every device is that device's block of rows of the reference's result, over the extended
    reals: where the devices hold the reference's activations by blocks of columns, and each the whole weights. -/
theorem algebraic : Cert.algebraic_KernelIdeal_ReferenceIdeal := by
  intro m g m' g' _ hagree
  let A : FVec Ideal Cert.KernelIdeal.S2048x2048 .f32 := m' (((0 : Dev Cert.ReferenceIdeal.nD).tc : Thread Cert.ReferenceIdeal.nD Cert.ReferenceIdeal.τ).loc Cert.ReferenceIdeal.main_arg0)
  let B : FVec Ideal Cert.KernelIdeal.S2048x2048 .f32 := m' (((0 : Dev Cert.ReferenceIdeal.nD).tc : Thread Cert.ReferenceIdeal.nD Cert.ReferenceIdeal.τ).loc Cert.ReferenceIdeal.main_arg1)
  have hold : Cert.KernelIdeal.Hand.Holds m A B := ⟨fun c => (hagree c).1, fun c => (hagree c).2⟩
  refine ⟨Cert.KernelIdeal.Hand.refOut A B, ?_, ?_⟩
  · exact (θ_run _ _ _).mono (fun r h c => ⟨(h.1 c).2.2.trans (hold.outW_eq c), (h.1 c).1, (h.1 c).2.1⟩)
      (Cert.KernelIdeal.Hand.run_main (F := Ideal) m g)
  · exact (θ_run _ _ _).mono (fun r h => h 0) (Cert.ReferenceIdeal.Value.run (F := Ideal) m' g')

/-- The claims, after the witnesses of the printed programs' facts. -/
theorem claim : Cert.Claim := ⟨Cert.Kernel.Gen.facts, Cert.KernelIdeal.Gen.facts, Cert.ReferenceIdeal.Gen.facts,
  frame_P, frame_PI, frame_RI, trivial, algebraic⟩

end Cert.Proof

end
